-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "sixth" .f32 0x3E2AAAAB#32 ((1 / 6 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v491) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S4x3x2048 : Shape := ⟨3, ![4, 3, 2048]⟩
abbrev S4x2048x3 : Shape := ⟨3, ![4, 2048, 3]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S4x1x2048 : Shape := ⟨3, ![4, 1, 2048]⟩
abbrev S4x2048x11 : Shape := ⟨3, ![4, 2048, 11]⟩
abbrev S4x2048x10 : Shape := ⟨3, ![4, 2048, 10]⟩
abbrev S4x2048x10x1 : Shape := ⟨4, ![4, 2048, 10, 1]⟩
abbrev S4x2048x1x10 : Shape := ⟨4, ![4, 2048, 1, 10]⟩
abbrev S4x2048x10x10 : Shape := ⟨4, ![4, 2048, 10, 10]⟩

class Facts : Prop where
  transposes_S4x3x2048_S4x2048x3_0_2_1 : S4x3x2048.Transposes [0, 2, 1] S4x2048x3
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  bcast_S_S4x2048x2048 : S_.BroadcastsInDim S4x2048x2048 (![] : Fin 0 → Fin S4x2048x2048.rank)
  bcast_S4x2048x1_S4x2048x2048_0_1_2 : S4x2048x1.BroadcastsInDim S4x2048x2048 (![0, 1, 2] : Fin 3 → Fin S4x2048x2048.rank)
  bcast_S4x2048_S4x1x2048_0_2 : S4x2048.BroadcastsInDim S4x1x2048 (![0, 2] : Fin 2 → Fin S4x1x2048.rank)
  bcast_S4x1x2048_S4x2048x2048_0_1_2 : S4x1x2048.BroadcastsInDim S4x2048x2048 (![0, 1, 2] : Fin 3 → Fin S4x2048x2048.rank)
  sliceFits_S4x2048x2048_S4x2048x11 : S4x2048x2048.Slices (fun _ => 0) S4x2048x11
  slices_S4x2048x11_S4x2048x10_0_0_1 : S4x2048x11.Slices ![0, 0, 1] S4x2048x10
  slices_S4x2048x11_S4x2048x10_0_0_0 : S4x2048x11.Slices ![0, 0, 0] S4x2048x10
  reducesTo_S4x2048x10_S_d0_1_2 : S4x2048x10.ReducesTo [0, 1, 2] S_
  bcast_S_S4x2048x10 : S_.BroadcastsInDim S4x2048x10 (![] : Fin 0 → Fin S4x2048x10.rank)
  bcast_S4x2048x10_S4x2048x10x1_0_1_2 : S4x2048x10.BroadcastsInDim S4x2048x10x1 (![0, 1, 2] : Fin 3 → Fin S4x2048x10x1.rank)
  bcast_S4x2048x10_S4x2048x1x10_0_1_3 : S4x2048x10.BroadcastsInDim S4x2048x1x10 (![0, 1, 3] : Fin 3 → Fin S4x2048x1x10.rank)
  bcast_S4x2048x10x1_S4x2048x10x10_0_1_2_3 : S4x2048x10x1.BroadcastsInDim S4x2048x10x10 (![0, 1, 2, 3] : Fin 4 → Fin S4x2048x10x10.rank)
  bcast_S4x2048x1x10_S4x2048x10x10_0_1_2_3 : S4x2048x1x10.BroadcastsInDim S4x2048x10x10 (![0, 1, 2, 3] : Fin 4 → Fin S4x2048x10x10.rank)
  bcast_S_S4x2048x10x10 : S_.BroadcastsInDim S4x2048x10x10 (![] : Fin 0 → Fin S4x2048x10x10.rank)
  reducesTo_S4x2048x10x10_S4x2048x10_d3 : S4x2048x10x10.ReducesTo [3] S4x2048x10
  dot_S4x2048x3_S4x2048x3_S4x2048x2048_2_2_1_1_0_0_wf : DotDims.WF S4x2048x3 S4x2048x3 S4x2048x2048 [2] [2] [1] [1] [0] [0]

variable [Facts]

def dot_S4x2048x3_S4x2048x3_S4x2048x2048_2_2_1_1_0_0 : DotDims S4x2048x3 S4x2048x3 S4x2048x2048 where
  lhsContracting := [2]
  rhsContracting := [2]
  lhsNonContracting := [1]
  rhsNonContracting := [1]
  lhsBatch := [0]
  rhsBatch := [0]
  wf := dot_S4x2048x3_S4x2048x3_S4x2048x2048_2_2_1_1_0_0_wf
def fn_where {F : FTy → Type} [FloatOps F] (arg0 : IVec S4x2048x10x10 1) (arg1 : FVec F S_ .f32) (arg2 : FVec F S_ .f32) : FVec F S4x2048x10x10 .f32 :=
  let v0 : FVec F S4x2048x10x10 .f32 := broadcastInDim S4x2048x10x10 ![] bcast_S_S4x2048x10x10 arg1
  let v1 : FVec F S4x2048x10x10 .f32 := broadcastInDim S4x2048x10x10 ![] bcast_S_S4x2048x10x10 arg2
  let v2 : FVec F S4x2048x10x10 .f32 := select arg0 v0 v1
  v2

def fn_part3 {F : FTy → Type} [FloatOps F] (main_v31 : IVec S_ 1) (main_v48 : IVec S_ 1) (main_v53 : IVec S4x2048x1x10 32) (main_v54 : IVec S4x2048x10x10 32) : IVec S_ 1 :=
  let main_v55 : IVec S4x2048x10x10 32 := broadcastInDim S4x2048x10x10 ![0, 1, 2, 3] bcast_S4x2048x1x10_S4x2048x10x10_0_1_2_3 main_v53
  let main_v56 : IVec S4x2048x10x10 1 := cmpi .eq main_v54 main_v55
  let main_cst_13 : FVec F S_ .f32 := constant S_ .f32 0x3F800000#32
  let main_cst_14 : FVec F S_ .f32 := constant S_ .f32 0x00000000#32
  let main_v57 : FVec F S4x2048x10x10 .f32 := fn_where (F := F) main_v56 main_cst_13 main_cst_14
  let main_v58 : FVec F S4x2048x10x10 .f32 := id main_v57
  let main_cst_15 : FVec F S_ .f32 := constant S_ .f32 0x00000000#32
  let main_v59 : FVec F S4x2048x10 .f32 := (fun x v => Host.reduceAdd x v reducesTo_S4x2048x10x10_S4x2048x10_d3 h_S_) main_v58 main_cst_15
  let main_cst_16 : FVec F S_ .f32 := constant S_ .f32 0x40000000#32
  let main_v60 : FVec F S4x2048x10 .f32 := broadcastInDim S4x2048x10 ![] bcast_S_S4x2048x10 main_cst_16
  let main_v61 : IVec S4x2048x10 1 := cmpf .ole main_v59 main_v60
  let main_c_17 : IVec S_ 1 := constantI S_ 1 1#1
  let main_v62 : IVec S_ 1 := (fun x v => Host.reduce IntOp.andi x v reducesTo_S4x2048x10_S_d0_1_2 h_S_) main_v61 main_c_17
  let main_v63 : IVec S_ 1 := andi main_v48 main_v62
  let main_v64 : IVec S_ 1 := andi main_v31 main_v63
  main_v64

def fn_part2 {F : FTy → Type} [FloatOps F] (main_v31 : IVec S_ 1) (main_v32 : FVec F S4x2048x3 .f32) (main_v34 : FVec F S4x2048 .f32) (main_v35 : FVec F S4x2048x1 .f32) : IVec S_ 1 :=
  let main_v36 : FVec F S4x2048x2048 .f32 := (fun l r => Host.dotGeneral dot_S4x2048x3_S4x2048x3_S4x2048x2048_2_2_1_1_0_0 none l r) main_v32 main_v32
  let main_cst_8 : FVec F S_ .f32 := constant S_ .f32 0x40000000#32
  let main_v37 : FVec F S4x2048x2048 .f32 := broadcastInDim S4x2048x2048 ![] bcast_S_S4x2048x2048 main_cst_8
  let main_v38 : FVec F S4x2048x2048 .f32 := mulf main_v37 main_v36
  let main_v39 : FVec F S4x2048x2048 .f32 := broadcastInDim S4x2048x2048 ![0, 1, 2] bcast_S4x2048x1_S4x2048x2048_0_1_2 main_v35
  let main_v40 : FVec F S4x2048x2048 .f32 := subf main_v39 main_v38
  let main_v41 : FVec F S4x1x2048 .f32 := broadcastInDim S4x1x2048 ![0, 2] bcast_S4x2048_S4x1x2048_0_2 main_v34
  let main_v42 : FVec F S4x2048x2048 .f32 := broadcastInDim S4x2048x2048 ![0, 1, 2] bcast_S4x1x2048_S4x2048x2048_0_1_2 main_v41
  let main_v43 : FVec F S4x2048x2048 .f32 := addf main_v40 main_v42
  let main_v44 : FVec F S4x2048x2048 .f32 := Host.negf main_v43
  let main_values_9 : FVec F S4x2048x11 .f32 := (fun x => (Host.topK S4x2048x11 2 (FloatOps.cmpfTotal .gt) x sliceFits_S4x2048x2048_S4x2048x11).1) main_v44
  let main_indices_10 : IVec S4x2048x11 32 := (fun x => (Host.topK S4x2048x11 2 (FloatOps.cmpfTotal .gt) x sliceFits_S4x2048x2048_S4x2048x11).2) main_v44
  let main_v45 : FVec F S4x2048x10 .f32 := (extractStridedSlice S4x2048x10 ![0, 0, 1] · slices_S4x2048x11_S4x2048x10_0_0_1) main_values_9
  let main_v46 : FVec F S4x2048x10 .f32 := (extractStridedSlice S4x2048x10 ![0, 0, 0] · slices_S4x2048x11_S4x2048x10_0_0_0) main_values_9
  let main_v47 : IVec S4x2048x10 1 := cmpf .olt main_v45 main_v46
  let main_c_11 : IVec S_ 1 := constantI S_ 1 1#1
  let main_v48 : IVec S_ 1 := (fun x v => Host.reduce IntOp.andi x v reducesTo_S4x2048x10_S_d0_1_2 h_S_) main_v47 main_c_11
  let main_v49 : IVec S4x2048x10 32 := (extractStridedSlice S4x2048x10 ![0, 0, 0] · slices_S4x2048x11_S4x2048x10_0_0_0) main_indices_10
  let main_c_12 : IVec S_ 32 := constantI S_ 32 128#32
  let main_v50 : IVec S4x2048x10 32 := broadcastInDim S4x2048x10 ![] bcast_S_S4x2048x10 main_c_12
  let main_v51 : IVec S4x2048x10 32 := Host.remsi main_v49 main_v50
  let main_v52 : IVec S4x2048x10x1 32 := broadcastInDim S4x2048x10x1 ![0, 1, 2] bcast_S4x2048x10_S4x2048x10x1_0_1_2 main_v51
  let main_v53 : IVec S4x2048x1x10 32 := broadcastInDim S4x2048x1x10 ![0, 1, 3] bcast_S4x2048x10_S4x2048x1x10_0_1_3 main_v51
  let main_v54 : IVec S4x2048x10x10 32 := broadcastInDim S4x2048x10x10 ![0, 1, 2, 3] bcast_S4x2048x10x1_S4x2048x10x10_0_1_2_3 main_v52
  fn_part3 (F := F) main_v31 main_v48 main_v53 main_v54

def fn_part1 {F : FTy → Type} [FloatOps F] (main_arg1 : FVec F S4x3x2048 .f32) (main_v16 : IVec S_ 1) (main_v17 : IVec S4x2048x10 32) (main_c_1 : IVec S_ 32) : IVec S_ 1 :=
  let main_v18 : IVec S4x2048x10 32 := broadcastInDim S4x2048x10 ![] bcast_S_S4x2048x10 main_c_1
  let main_v19 : IVec S4x2048x10 32 := Host.remsi main_v17 main_v18
  let main_v20 : IVec S4x2048x10x1 32 := broadcastInDim S4x2048x10x1 ![0, 1, 2] bcast_S4x2048x10_S4x2048x10x1_0_1_2 main_v19
  let main_v21 : IVec S4x2048x1x10 32 := broadcastInDim S4x2048x1x10 ![0, 1, 3] bcast_S4x2048x10_S4x2048x1x10_0_1_3 main_v19
  let main_v22 : IVec S4x2048x10x10 32 := broadcastInDim S4x2048x10x10 ![0, 1, 2, 3] bcast_S4x2048x10x1_S4x2048x10x10_0_1_2_3 main_v20
  let main_v23 : IVec S4x2048x10x10 32 := broadcastInDim S4x2048x10x10 ![0, 1, 2, 3] bcast_S4x2048x1x10_S4x2048x10x10_0_1_2_3 main_v21
  let main_v24 : IVec S4x2048x10x10 1 := cmpi .eq main_v22 main_v23
  let main_cst_2 : FVec F S_ .f32 := constant S_ .f32 0x3F800000#32
  let main_cst_3 : FVec F S_ .f32 := constant S_ .f32 0x00000000#32
  let main_v25 : FVec F S4x2048x10x10 .f32 := fn_where (F := F) main_v24 main_cst_2 main_cst_3
  let main_v26 : FVec F S4x2048x10x10 .f32 := id main_v25
  let main_cst_4 : FVec F S_ .f32 := constant S_ .f32 0x00000000#32
  let main_v27 : FVec F S4x2048x10 .f32 := (fun x v => Host.reduceAdd x v reducesTo_S4x2048x10x10_S4x2048x10_d3 h_S_) main_v26 main_cst_4
  let main_cst_5 : FVec F S_ .f32 := constant S_ .f32 0x40000000#32
  let main_v28 : FVec F S4x2048x10 .f32 := broadcastInDim S4x2048x10 ![] bcast_S_S4x2048x10 main_cst_5
  let main_v29 : IVec S4x2048x10 1 := cmpf .ole main_v27 main_v28
  let main_c_6 : IVec S_ 1 := constantI S_ 1 1#1
  let main_v30 : IVec S_ 1 := (fun x v => Host.reduce IntOp.andi x v reducesTo_S4x2048x10_S_d0_1_2 h_S_) main_v29 main_c_6
  let main_v31 : IVec S_ 1 := andi main_v16 main_v30
  let main_v32 : FVec F S4x2048x3 .f32 := (transpose S4x2048x3 [0, 2, 1] · transposes_S4x3x2048_S4x2048x3_0_2_1) main_arg1
  let main_v33 : FVec F S4x2048x3 .f32 := mulf main_v32 main_v32
  let main_cst_7 : FVec F S_ .f32 := constant S_ .f32 0x00000000#32
  let main_v34 : FVec F S4x2048 .f32 := (fun x v => Host.reduceAdd x v reducesTo_S4x2048x3_S4x2048_d2 h_S_) main_v33 main_cst_7
  let main_v35 : FVec F S4x2048x1 .f32 := broadcastInDim S4x2048x1 ![0, 1] bcast_S4x2048_S4x2048x1_0_1 main_v34
  fn_part2 (F := F) main_v31 main_v32 main_v34 main_v35

def fn {F : FTy → Type} [FloatOps F] (main_arg0 : FVec F S4x3x2048 .f32) (main_arg1 : FVec F S4x3x2048 .f32) : IVec S_ 1 :=
  let main_v0 : FVec F S4x2048x3 .f32 := (transpose S4x2048x3 [0, 2, 1] · transposes_S4x3x2048_S4x2048x3_0_2_1) main_arg0
  let main_v1 : FVec F S4x2048x3 .f32 := mulf main_v0 main_v0
  let main_cst : FVec F S_ .f32 := constant S_ .f32 0x00000000#32
  let main_v2 : FVec F S4x2048 .f32 := (fun x v => Host.reduceAdd x v reducesTo_S4x2048x3_S4x2048_d2 h_S_) main_v1 main_cst
  let main_v3 : FVec F S4x2048x1 .f32 := broadcastInDim S4x2048x1 ![0, 1] bcast_S4x2048_S4x2048x1_0_1 main_v2
  let main_v4 : FVec F S4x2048x2048 .f32 := (fun l r => Host.dotGeneral dot_S4x2048x3_S4x2048x3_S4x2048x2048_2_2_1_1_0_0 none l r) main_v0 main_v0
  let main_cst_0 : FVec F S_ .f32 := constant S_ .f32 0x40000000#32
  let main_v5 : FVec F S4x2048x2048 .f32 := broadcastInDim S4x2048x2048 ![] bcast_S_S4x2048x2048 main_cst_0
  let main_v6 : FVec F S4x2048x2048 .f32 := mulf main_v5 main_v4
  let main_v7 : FVec F S4x2048x2048 .f32 := broadcastInDim S4x2048x2048 ![0, 1, 2] bcast_S4x2048x1_S4x2048x2048_0_1_2 main_v3
  let main_v8 : FVec F S4x2048x2048 .f32 := subf main_v7 main_v6
  let main_v9 : FVec F S4x1x2048 .f32 := broadcastInDim S4x1x2048 ![0, 2] bcast_S4x2048_S4x1x2048_0_2 main_v2
  let main_v10 : FVec F S4x2048x2048 .f32 := broadcastInDim S4x2048x2048 ![0, 1, 2] bcast_S4x1x2048_S4x2048x2048_0_1_2 main_v9
  let main_v11 : FVec F S4x2048x2048 .f32 := addf main_v8 main_v10
  let main_v12 : FVec F S4x2048x2048 .f32 := Host.negf main_v11
  let main_values : FVec F S4x2048x11 .f32 := (fun x => (Host.topK S4x2048x11 2 (FloatOps.cmpfTotal .gt) x sliceFits_S4x2048x2048_S4x2048x11).1) main_v12
  let main_indices : IVec S4x2048x11 32 := (fun x => (Host.topK S4x2048x11 2 (FloatOps.cmpfTotal .gt) x sliceFits_S4x2048x2048_S4x2048x11).2) main_v12
  let main_v13 : FVec F S4x2048x10 .f32 := (extractStridedSlice S4x2048x10 ![0, 0, 1] · slices_S4x2048x11_S4x2048x10_0_0_1) main_values
  let main_v14 : FVec F S4x2048x10 .f32 := (extractStridedSlice S4x2048x10 ![0, 0, 0] · slices_S4x2048x11_S4x2048x10_0_0_0) main_values
  let main_v15 : IVec S4x2048x10 1 := cmpf .olt main_v13 main_v14
  let main_c : IVec S_ 1 := constantI S_ 1 1#1
  let main_v16 : IVec S_ 1 := (fun x v => Host.reduce IntOp.andi x v reducesTo_S4x2048x10_S_d0_1_2 h_S_) main_v15 main_c
  let main_v17 : IVec S4x2048x10 32 := (extractStridedSlice S4x2048x10 ![0, 0, 0] · slices_S4x2048x11_S4x2048x10_0_0_0) main_indices
  let main_c_1 : IVec S_ 32 := constantI S_ 32 128#32
  fn_part1 (F := F) main_arg1 main_v16 main_v17 main_c_1
-- ==== Kernel.lean ====
abbrev S4x3x2048 : Shape := ⟨3, ![4, 3, 2048]⟩
abbrev S8x3x2048 : Shape := ⟨3, ![8, 3, 2048]⟩
abbrev S8x2048x3 : Shape := ⟨3, ![8, 2048, 3]⟩
abbrev S_ : Shape := ⟨0, ![]⟩
abbrev S8x2048x128 : Shape := ⟨3, ![8, 2048, 128]⟩
abbrev S8x128x2048 : Shape := ⟨3, ![8, 128, 2048]⟩
abbrev S4x1x128 : Shape := ⟨3, ![4, 1, 128]⟩
abbrev S1x512x128 : Shape := ⟨3, ![1, 512, 128]⟩
abbrev S1x128x2048 : Shape := ⟨3, ![1, 128, 2048]⟩
abbrev S1x1x128 : Shape := ⟨3, ![1, 1, 128]⟩
abbrev S2048x16 : Shape := ⟨2, ![2048, 16]⟩
abbrev S1x2048 : Shape := ⟨2, ![1, 2048]⟩
abbrev S1x1 : Shape := ⟨2, ![1, 1]⟩
abbrev S128x2048 : Shape := ⟨2, ![128, 2048]⟩
abbrev S6x2048 : Shape := ⟨2, ![6, 2048]⟩
abbrev S16x2048 : Shape := ⟨2, ![16, 2048]⟩
abbrev S2048 : Shape := ⟨1, ![2048]⟩
abbrev S512x128 : Shape := ⟨2, ![512, 128]⟩
abbrev S512x2048 : Shape := ⟨2, ![512, 2048]⟩
abbrev S1x128 : Shape := ⟨2, ![1, 128]⟩
abbrev S512x256 : Shape := ⟨2, ![512, 256]⟩
abbrev S512 : Shape := ⟨1, ![512]⟩
abbrev S512x1 : Shape := ⟨2, ![512, 1]⟩
abbrev S512x16 : Shape := ⟨2, ![512, 16]⟩
abbrev S16x512 : Shape := ⟨2, ![16, 512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 15
  | .vmem => 16
  | .smem => 1
  | _ => 0

abbrev bufTy : (tb : Table) → Fin (tcTables nBuf tb) → BufTy
  | .hbm, ⟨0, _⟩ => ⟨S4x3x2048, .f32⟩
  | .hbm, ⟨1, _⟩ => ⟨S4x3x2048, .f32⟩
  | .hbm, ⟨2, _⟩ => ⟨S8x3x2048, .f32⟩
  | .hbm, ⟨3, _⟩ => ⟨S8x2048x3, .f32⟩
  | .hbm, ⟨4, _⟩ => ⟨S_, .i32⟩
  | .hbm, ⟨5, _⟩ => ⟨S_, .f32⟩
  | .hbm, ⟨6, _⟩ => ⟨S8x2048x128, .f32⟩
  | .hbm, ⟨7, _⟩ => ⟨S8x128x2048, .f32⟩
  | .hbm, ⟨8, _⟩ => ⟨S4x1x128, .f32⟩
  | .hbm, ⟨9, _⟩ => ⟨S4x1x1, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x512x128, .f32⟩
  | .local _ .vmem, ⟨1, _⟩ => ⟨S1x512x128, .f32⟩
  | .local _ .vmem, ⟨2, _⟩ => ⟨S1x128x2048, .f32⟩
  | .local _ .vmem, ⟨3, _⟩ => ⟨S1x128x2048, .f32⟩
  | .local _ .vmem, ⟨4, _⟩ => ⟨S1x512x128, .f32⟩
  | .local _ .vmem, ⟨5, _⟩ => ⟨S1x512x128, .f32⟩
  | .local _ .vmem, ⟨6, _⟩ => ⟨S1x128x2048, .f32⟩
  | .local _ .vmem, ⟨7, _⟩ => ⟨S1x128x2048, .f32⟩
  | .local _ .vmem, ⟨8, _⟩ => ⟨S1x1x128, .f32⟩
  | .local _ .vmem, ⟨9, _⟩ => ⟨S1x1x128, .f32⟩
  | .local _ .vmem, ⟨10, _⟩ => ⟨S2048x16, .bf16⟩
  | .local _ .vmem, ⟨11, _⟩ => ⟨S2048x16, .bf16⟩
  | .local _ .vmem, ⟨12, _⟩ => ⟨S2048x16, .bf16⟩
  | .local _ .vmem, ⟨13, _⟩ => ⟨S2048x16, .bf16⟩
  | .local _ .vmem, ⟨14, _⟩ => ⟨S1x2048, .f32⟩
  | .local _ .vmem, ⟨15, _⟩ => ⟨S1x2048, .f32⟩
  | .local _ .smem, ⟨0, _⟩ => ⟨S1x1, .f32⟩
  | _, _ => ⟨S4x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v1292 : BitVec 1 := Scalar.cmpi .eq arg1 c3_i32
  let v1293 : BitVec 32 := Scalar.extui v1292
  let c0_i32_326 : BitVec 32 := 0#32
  let v1294 : BitVec 1 := Scalar.cmpi .ne v1293 c0_i32_326
  v1294

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "sixth" => some ((1 / 6 : ℝ) : EReal)
  | "third" => some ((1 / 3 : ℝ) : EReal)
  | _ => none
-- ==== ReferenceIdeal.lean ====
abbrev S4x3x2048 : Shape := ⟨3, ![4, 3, 2048]⟩
abbrev S4x2048x3 : Shape := ⟨3, ![4, 2048, 3]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S4x1x2048 : Shape := ⟨3, ![4, 1, 2048]⟩
abbrev S4x2048x10 : Shape := ⟨3, ![4, 2048, 10]⟩
abbrev S4x2048x10x1 : Shape := ⟨4, ![4, 2048, 10, 1]⟩
abbrev S4x2048x10x3 : Shape := ⟨4, ![4, 2048, 10, 3]⟩
abbrev S4x2048x1x3 : Shape := ⟨4, ![4, 2048, 1, 3]⟩
abbrev S4x2048x3x3 : Shape := ⟨4, ![4, 2048, 3, 3]⟩
abbrev S1x4x2048x3x3 : Shape := ⟨5, ![1, 4, 2048, 3, 3]⟩
abbrev S2x4x2048x3x3 : Shape := ⟨5, ![2, 4, 2048, 3, 3]⟩
abbrev S2x4x2048x1x1 : Shape := ⟨5, ![2, 4, 2048, 1, 1]⟩
abbrev S2x4x2048 : Shape := ⟨3, ![2, 4, 2048]⟩
abbrev S3x3 : Shape := ⟨2, ![3, 3]⟩
abbrev S1x1x1x3x3 : Shape := ⟨5, ![1, 1, 1, 3, 3]⟩
abbrev S2x4x2048x1x3 : Shape := ⟨5, ![2, 4, 2048, 1, 3]⟩
abbrev S2x4x2048x3 : Shape := ⟨4, ![2, 4, 2048, 3]⟩
abbrev S2x4x2048x1 : Shape := ⟨4, ![2, 4, 2048, 1]⟩
abbrev S1x4x2048x3 : Shape := ⟨4, ![1, 4, 2048, 3]⟩

abbrev nBuf : Space → Nat
  | .hbm => 597
  | .vmem => 0
  | .smem => 0
  | _ => 0

abbrev hbmTy0_0 (i : Nat) : BufTy := match i % 128 with
  | 0 => ⟨S4x3x2048, .f32⟩
  | 1 => ⟨S4x3x2048, .f32⟩
  | 2 => ⟨S4x2048x3, .f32⟩
  | 3 => ⟨S4x2048x3, .f32⟩
  | 4 => ⟨S4x2048x3, .f32⟩
  | 5 => ⟨S_, .f32⟩
  | 6 => ⟨S4x2048, .f32⟩
  | 7 => ⟨S4x2048x1, .f32⟩
  | 8 => ⟨S4x2048x2048, .f32⟩
  | 9 => ⟨S_, .f32⟩
  | 10 => ⟨S4x2048x2048, .f32⟩
  | 11 => ⟨S4x2048x2048, .f32⟩
  | 12 => ⟨S4x2048x2048, .f32⟩
  | 13 => ⟨S4x2048x2048, .f32⟩
  | 14 => ⟨S4x1x2048, .f32⟩
  | 15 => ⟨S4x2048x2048, .f32⟩
  | 16 => ⟨S4x2048x2048, .f32⟩
  | 17 => ⟨S4x2048x2048, .f32⟩
  | 18 => ⟨S4x2048x10, .f32⟩
  | 19 => ⟨S4x2048x10, .i32⟩
  | 20 => ⟨S_, .i32⟩
  | 21 => ⟨S4x2048x10, .i32⟩
  | 22 => ⟨S4x2048x10, .i1⟩
  | 23 => ⟨S_, .i32⟩
  | 24 => ⟨S4x2048x10, .i32⟩
  | 25 => ⟨S4x2048x10, .i32⟩
  | 26 => ⟨S4x2048x10, .i32⟩
  | 27 => ⟨S4x2048x10x1, .i32⟩
  | 28 => ⟨S4x2048x10x3, .f32⟩
  | 29 => ⟨S_, .f32⟩
  | 30 => ⟨S4x2048x3, .f32⟩
  | 31 => ⟨S4x2048x1x3, .f32⟩
  | 32 => ⟨S_, .f32⟩
  | 33 => ⟨S4x2048x1x3, .f32⟩
  | 34 => ⟨S4x2048x1x3, .f32⟩
  | 35 => ⟨S4x2048x10x3, .f32⟩
  | 36 => ⟨S4x2048x10x3, .f32⟩
  | 37 => ⟨S4x2048x3x3, .f32⟩
  | 38 => ⟨S_, .f32⟩
  | 39 => ⟨S4x2048x3x3, .f32⟩
  | 40 => ⟨S4x2048x3x3, .f32⟩
  | 41 => ⟨S4x2048x3, .f32⟩
  | 42 => ⟨S4x2048x3, .f32⟩
  | 43 => ⟨S4x2048x3, .f32⟩
  | 44 => ⟨S_, .f32⟩
  | 45 => ⟨S4x2048, .f32⟩
  | 46 => ⟨S4x2048x1, .f32⟩
  | 47 => ⟨S4x2048x2048, .f32⟩
  | 48 => ⟨S_, .f32⟩
  | 49 => ⟨S4x2048x2048, .f32⟩
  | 50 => ⟨S4x2048x2048, .f32⟩
  | 51 => ⟨S4x2048x2048, .f32⟩
  | 52 => ⟨S4x2048x2048, .f32⟩
  | 53 => ⟨S4x1x2048, .f32⟩
  | 54 => ⟨S4x2048x2048, .f32⟩
  | 55 => ⟨S4x2048x2048, .f32⟩
  | 56 => ⟨S4x2048x2048, .f32⟩
  | 57 => ⟨S4x2048x10, .f32⟩
  | 58 => ⟨S4x2048x10, .i32⟩
  | 59 => ⟨S_, .i32⟩
  | 60 => ⟨S4x2048x10, .i32⟩
  | 61 => ⟨S4x2048x10, .i1⟩
  | 62 => ⟨S_, .i32⟩
  | 63 => ⟨S4x2048x10, .i32⟩
  | 64 => ⟨S4x2048x10, .i32⟩
  | 65 => ⟨S4x2048x10, .i32⟩
  | 66 => ⟨S4x2048x10x1, .i32⟩
  | 67 => ⟨S4x2048x10x3, .f32⟩
  | 68 => ⟨S_, .f32⟩
  | 69 => ⟨S4x2048x3, .f32⟩
  | 70 => ⟨S4x2048x1x3, .f32⟩
  | 71 => ⟨S_, .f32⟩
  | 72 => ⟨S4x2048x1x3, .f32⟩
  | 73 => ⟨S4x2048x1x3, .f32⟩
  | 74 => ⟨S4x2048x10x3, .f32⟩
  | 75 => ⟨S4x2048x10x3, .f32⟩
  | 76 => ⟨S4x2048x3x3, .f32⟩
  | 77 => ⟨S_, .f32⟩
  | 78 => ⟨S4x2048x3x3, .f32⟩
  | 79 => ⟨S4x2048x3x3, .f32⟩
  | 80 => ⟨S1x4x2048x3x3, .f32⟩
  | 81 => ⟨S1x4x2048x3x3, .f32⟩
  | 82 => ⟨S2x4x2048x3x3, .f32⟩
  | 83 => ⟨S2x4x2048x1x1, .f32⟩
  | 84 => ⟨S2x4x2048, .f32⟩
  | 85 => ⟨S2x4x2048x1x1, .f32⟩
  | 86 => ⟨S2x4x2048, .f32⟩
  | 87 => ⟨S2x4x2048x1x1, .f32⟩
  | 88 => ⟨S2x4x2048, .f32⟩
  | 89 => ⟨S2x4x2048x1x1, .f32⟩
  | 90 => ⟨S2x4x2048, .f32⟩
  | 91 => ⟨S2x4x2048x1x1, .f32⟩
  | 92 => ⟨S2x4x2048, .f32⟩
  | 93 => ⟨S2x4x2048x1x1, .f32⟩
  | 94 => ⟨S2x4x2048, .f32⟩
  | 95 => ⟨S2x4x2048, .f32⟩
  | 96 => ⟨S2x4x2048, .f32⟩
  | 97 => ⟨S_, .f32⟩
  | 98 => ⟨S2x4x2048, .f32⟩
  | 99 => ⟨S2x4x2048, .f32⟩
  | 100 => ⟨S2x4x2048, .f32⟩
  | 101 => ⟨S2x4x2048, .f32⟩
  | 102 => ⟨S2x4x2048, .f32⟩
  | 103 => ⟨S2x4x2048, .f32⟩
  | 104 => ⟨S2x4x2048, .f32⟩
  | 105 => ⟨S2x4x2048, .f32⟩
  | 106 => ⟨S2x4x2048, .f32⟩
  | 107 => ⟨S2x4x2048, .f32⟩
  | 108 => ⟨S2x4x2048, .f32⟩
  | 109 => ⟨S2x4x2048, .f32⟩
  | 110 => ⟨S2x4x2048, .f32⟩
  | 111 => ⟨S2x4x2048, .f32⟩
  | 112 => ⟨S2x4x2048, .f32⟩
  | 113 => ⟨S_, .f32⟩
  | 114 => ⟨S2x4x2048, .f32⟩
  | 115 => ⟨S2x4x2048, .f32⟩
  | 116 => ⟨S2x4x2048, .f32⟩
  | 117 => ⟨S_, .f32⟩
  | 118 => ⟨S2x4x2048, .f32⟩
  | 119 => ⟨S2x4x2048, .f32⟩
  | 120 => ⟨S_, .f32⟩
  | 121 => ⟨S2x4x2048, .f32⟩
  | 122 => ⟨S2x4x2048, .f32⟩
  | 123 => ⟨S2x4x2048, .f32⟩
  | 124 => ⟨S2x4x2048, .f32⟩
  | 125 => ⟨S2x4x2048, .f32⟩
  | 126 => ⟨S2x4x2048, .f32⟩
  | 127 => ⟨S2x4x2048, .f32⟩
  | _ => ⟨S4x3x2048, .f32⟩

abbrev hbmTy0_1 (i : Nat) : BufTy := match i % 128 with
  | 0 => ⟨S2x4x2048, .f32⟩
  | 1 => ⟨S2x4x2048, .f32⟩
  | 2 => ⟨S2x4x2048, .f32⟩
  | 3 => ⟨S2x4x2048, .f32⟩
  | 4 => ⟨S2x4x2048, .f32⟩
  | 5 => ⟨S2x4x2048, .f32⟩
  | 6 => ⟨S2x4x2048, .f32⟩
  | 7 => ⟨S2x4x2048, .f32⟩
  | 8 => ⟨S2x4x2048, .f32⟩
  | 9 => ⟨S2x4x2048, .f32⟩
  | 10 => ⟨S2x4x2048, .f32⟩
  | 11 => ⟨S2x4x2048, .f32⟩
  | 12 => ⟨S2x4x2048, .f32⟩
  | 13 => ⟨S2x4x2048, .f32⟩
  | 14 => ⟨S2x4x2048, .f32⟩
  | 15 => ⟨S2x4x2048, .f32⟩
  | 16 => ⟨S_, .f32⟩
  | 17 => ⟨S2x4x2048, .f32⟩
  | 18 => ⟨S2x4x2048, .f32⟩
  | 19 => ⟨S_, .f32⟩
  | 20 => ⟨S_, .f32⟩
  | 21 => ⟨S_, .f32⟩
  | 22 => ⟨S2x4x2048, .f32⟩
  | 23 => ⟨S2x4x2048, .f32⟩
  | 24 => ⟨S_, .f32⟩
  | 25 => ⟨S2x4x2048, .f32⟩
  | 26 => ⟨S2x4x2048, .f32⟩
  | 27 => ⟨S_, .f32⟩
  | 28 => ⟨S2x4x2048, .f32⟩
  | 29 => ⟨S2x4x2048, .f32⟩
  | 30 => ⟨S2x4x2048, .f32⟩
  | 31 => ⟨S_, .f32⟩
  | 32 => ⟨S2x4x2048, .f32⟩
  | 33 => ⟨S2x4x2048, .f32⟩
  | 34 => ⟨S2x4x2048, .f32⟩
  | 35 => ⟨S_, .f32⟩
  | 36 => ⟨S2x4x2048, .f32⟩
  | 37 => ⟨S2x4x2048, .f32⟩
  | 38 => ⟨S2x4x2048, .f32⟩
  | 39 => ⟨S_, .f32⟩
  | 40 => ⟨S2x4x2048, .f32⟩
  | 41 => ⟨S2x4x2048, .f32⟩
  | 42 => ⟨S2x4x2048, .f32⟩
  | 43 => ⟨S_, .f32⟩
  | 44 => ⟨S2x4x2048, .f32⟩
  | 45 => ⟨S2x4x2048, .f32⟩
  | 46 => ⟨S_, .f32⟩
  | 47 => ⟨S2x4x2048, .f32⟩
  | 48 => ⟨S2x4x2048, .f32⟩
  | 49 => ⟨S2x4x2048, .f32⟩
  | 50 => ⟨S2x4x2048, .f32⟩
  | 51 => ⟨S2x4x2048, .f32⟩
  | 52 => ⟨S2x4x2048, .f32⟩
  | 53 => ⟨S_, .f32⟩
  | 54 => ⟨S2x4x2048, .f32⟩
  | 55 => ⟨S2x4x2048, .f32⟩
  | 56 => ⟨S2x4x2048, .f32⟩
  | 57 => ⟨S_, .f32⟩
  | 58 => ⟨S2x4x2048, .f32⟩
  | 59 => ⟨S2x4x2048, .f32⟩
  | 60 => ⟨S2x4x2048, .f32⟩
  | 61 => ⟨S_, .f32⟩
  | 62 => ⟨S2x4x2048, .f32⟩
  | 63 => ⟨S2x4x2048, .f32⟩
  | 64 => ⟨S2x4x2048, .f32⟩
  | 65 => ⟨S_, .f32⟩
  | 66 => ⟨S2x4x2048, .f32⟩
  | 67 => ⟨S2x4x2048, .f32⟩
  | 68 => ⟨S_, .f32⟩
  | 69 => ⟨S2x4x2048, .f32⟩
  | 70 => ⟨S2x4x2048, .f32⟩
  | 71 => ⟨S2x4x2048, .f32⟩
  | 72 => ⟨S2x4x2048, .f32⟩
  | 73 => ⟨S2x4x2048, .f32⟩
  | 74 => ⟨S2x4x2048, .f32⟩
  | 75 => ⟨S_, .f32⟩
  | 76 => ⟨S2x4x2048, .f32⟩
  | 77 => ⟨S2x4x2048, .f32⟩
  | 78 => ⟨S2x4x2048, .f32⟩
  | 79 => ⟨S_, .f32⟩
  | 80 => ⟨S2x4x2048, .f32⟩
  | 81 => ⟨S2x4x2048, .f32⟩
  | 82 => ⟨S2x4x2048, .f32⟩
  | 83 => ⟨S_, .f32⟩
  | 84 => ⟨S2x4x2048, .f32⟩
  | 85 => ⟨S2x4x2048, .f32⟩
  | 86 => ⟨S2x4x2048, .f32⟩
  | 87 => ⟨S_, .f32⟩
  | 88 => ⟨S2x4x2048, .f32⟩
  | 89 => ⟨S2x4x2048, .f32⟩
  | 90 => ⟨S_, .f32⟩
  | 91 => ⟨S2x4x2048, .f32⟩
  | 92 => ⟨S2x4x2048, .f32⟩
  | 93 => ⟨S2x4x2048, .f32⟩
  | 94 => ⟨S2x4x2048, .f32⟩
  | 95 => ⟨S2x4x2048, .f32⟩
  | 96 => ⟨S2x4x2048, .f32⟩
  | 97 => ⟨S_, .f32⟩
  | 98 => ⟨S2x4x2048, .f32⟩
  | 99 => ⟨S2x4x2048, .f32⟩
  | 100 => ⟨S2x4x2048, .f32⟩
  | 101 => ⟨S_, .f32⟩
  | 102 => ⟨S2x4x2048, .f32⟩
  | 103 => ⟨S2x4x2048, .f32⟩
  | 104 => ⟨S2x4x2048, .f32⟩
  | 105 => ⟨S_, .f32⟩
  | 106 => ⟨S2x4x2048, .f32⟩
  | 107 => ⟨S2x4x2048, .f32⟩
  | 108 => ⟨S2x4x2048, .f32⟩
  | 109 => ⟨S_, .f32⟩
  | 110 => ⟨S2x4x2048, .f32⟩
  | 111 => ⟨S2x4x2048, .f32⟩
  | 112 => ⟨S_, .f32⟩
  | 113 => ⟨S2x4x2048, .f32⟩
  | 114 => ⟨S2x4x2048, .f32⟩
  | 115 => ⟨S2x4x2048, .f32⟩
  | 116 => ⟨S2x4x2048, .f32⟩
  | 117 => ⟨S2x4x2048, .f32⟩
  | 118 => ⟨S2x4x2048, .f32⟩
  | 119 => ⟨S_, .f32⟩
  | 120 => ⟨S2x4x2048, .f32⟩
  | 121 => ⟨S2x4x2048, .f32⟩
  | 122 => ⟨S2x4x2048, .f32⟩
  | 123 => ⟨S_, .f32⟩
  | 124 => ⟨S2x4x2048, .f32⟩
  | 125 => ⟨S2x4x2048, .f32⟩
  | 126 => ⟨S2x4x2048, .f32⟩
  | 127 => ⟨S_, .f32⟩
  | _ => ⟨S4x3x2048, .f32⟩

abbrev hbmTy0_2 (i : Nat) : BufTy := match i % 128 with
  | 0 => ⟨S2x4x2048, .f32⟩
  | 1 => ⟨S2x4x2048, .f32⟩
  | 2 => ⟨S2x4x2048, .f32⟩
  | 3 => ⟨S_, .f32⟩
  | 4 => ⟨S2x4x2048, .f32⟩
  | 5 => ⟨S2x4x2048, .f32⟩
  | 6 => ⟨S_, .f32⟩
  | 7 => ⟨S2x4x2048, .f32⟩
  | 8 => ⟨S2x4x2048, .f32⟩
  | 9 => ⟨S2x4x2048, .f32⟩
  | 10 => ⟨S2x4x2048, .f32⟩
  | 11 => ⟨S2x4x2048, .f32⟩
  | 12 => ⟨S2x4x2048, .f32⟩
  | 13 => ⟨S_, .f32⟩
  | 14 => ⟨S2x4x2048, .f32⟩
  | 15 => ⟨S2x4x2048, .f32⟩
  | 16 => ⟨S2x4x2048, .f32⟩
  | 17 => ⟨S_, .f32⟩
  | 18 => ⟨S2x4x2048, .f32⟩
  | 19 => ⟨S2x4x2048, .f32⟩
  | 20 => ⟨S2x4x2048, .f32⟩
  | 21 => ⟨S_, .f32⟩
  | 22 => ⟨S2x4x2048, .f32⟩
  | 23 => ⟨S2x4x2048, .f32⟩
  | 24 => ⟨S2x4x2048, .f32⟩
  | 25 => ⟨S_, .f32⟩
  | 26 => ⟨S2x4x2048, .f32⟩
  | 27 => ⟨S2x4x2048, .f32⟩
  | 28 => ⟨S_, .f32⟩
  | 29 => ⟨S2x4x2048, .f32⟩
  | 30 => ⟨S2x4x2048, .f32⟩
  | 31 => ⟨S2x4x2048, .f32⟩
  | 32 => ⟨S2x4x2048, .f32⟩
  | 33 => ⟨S2x4x2048, .f32⟩
  | 34 => ⟨S2x4x2048, .f32⟩
  | 35 => ⟨S_, .f32⟩
  | 36 => ⟨S2x4x2048, .f32⟩
  | 37 => ⟨S2x4x2048, .f32⟩
  | 38 => ⟨S2x4x2048, .f32⟩
  | 39 => ⟨S_, .f32⟩
  | 40 => ⟨S2x4x2048, .f32⟩
  | 41 => ⟨S2x4x2048, .f32⟩
  | 42 => ⟨S2x4x2048, .f32⟩
  | 43 => ⟨S_, .f32⟩
  | 44 => ⟨S2x4x2048, .f32⟩
  | 45 => ⟨S2x4x2048, .f32⟩
  | 46 => ⟨S2x4x2048, .f32⟩
  | 47 => ⟨S_, .f32⟩
  | 48 => ⟨S2x4x2048, .f32⟩
  | 49 => ⟨S2x4x2048, .f32⟩
  | 50 => ⟨S_, .f32⟩
  | 51 => ⟨S2x4x2048, .f32⟩
  | 52 => ⟨S2x4x2048, .f32⟩
  | 53 => ⟨S2x4x2048, .f32⟩
  | 54 => ⟨S2x4x2048, .f32⟩
  | 55 => ⟨S2x4x2048, .f32⟩
  | 56 => ⟨S2x4x2048, .f32⟩
  | 57 => ⟨S_, .f32⟩
  | 58 => ⟨S2x4x2048, .f32⟩
  | 59 => ⟨S2x4x2048, .f32⟩
  | 60 => ⟨S2x4x2048, .f32⟩
  | 61 => ⟨S_, .f32⟩
  | 62 => ⟨S2x4x2048, .f32⟩
  | 63 => ⟨S2x4x2048, .f32⟩
  | 64 => ⟨S2x4x2048, .f32⟩
  | 65 => ⟨S_, .f32⟩
  | 66 => ⟨S2x4x2048, .f32⟩
  | 67 => ⟨S2x4x2048, .f32⟩
  | 68 => ⟨S2x4x2048, .f32⟩
  | 69 => ⟨S_, .f32⟩
  | 70 => ⟨S2x4x2048, .f32⟩
  | 71 => ⟨S2x4x2048, .f32⟩
  | 72 => ⟨S_, .f32⟩
  | 73 => ⟨S2x4x2048, .f32⟩
  | 74 => ⟨S2x4x2048, .f32⟩
  | 75 => ⟨S2x4x2048, .f32⟩
  | 76 => ⟨S2x4x2048, .f32⟩
  | 77 => ⟨S2x4x2048, .f32⟩
  | 78 => ⟨S2x4x2048, .f32⟩
  | 79 => ⟨S_, .f32⟩
  | 80 => ⟨S2x4x2048, .f32⟩
  | 81 => ⟨S2x4x2048, .f32⟩
  | 82 => ⟨S2x4x2048, .f32⟩
  | 83 => ⟨S_, .f32⟩
  | 84 => ⟨S2x4x2048, .f32⟩
  | 85 => ⟨S2x4x2048, .f32⟩
  | 86 => ⟨S2x4x2048, .f32⟩
  | 87 => ⟨S_, .f32⟩
  | 88 => ⟨S2x4x2048, .f32⟩
  | 89 => ⟨S2x4x2048, .f32⟩
  | 90 => ⟨S2x4x2048, .f32⟩
  | 91 => ⟨S_, .f32⟩
  | 92 => ⟨S2x4x2048, .f32⟩
  | 93 => ⟨S2x4x2048, .f32⟩
  | 94 => ⟨S_, .f32⟩
  | 95 => ⟨S2x4x2048, .f32⟩
  | 96 => ⟨S2x4x2048, .f32⟩
  | 97 => ⟨S2x4x2048, .f32⟩
  | 98 => ⟨S2x4x2048, .f32⟩
  | 99 => ⟨S2x4x2048, .f32⟩
  | 100 => ⟨S2x4x2048, .f32⟩
  | 101 => ⟨S_, .f32⟩
  | 102 => ⟨S2x4x2048, .f32⟩
  | 103 => ⟨S2x4x2048, .f32⟩
  | 104 => ⟨S2x4x2048, .f32⟩
  | 105 => ⟨S_, .f32⟩
  | 106 => ⟨S2x4x2048, .f32⟩
  | 107 => ⟨S2x4x2048, .f32⟩
  | 108 => ⟨S2x4x2048, .f32⟩
  | 109 => ⟨S_, .f32⟩
  | 110 => ⟨S2x4x2048, .f32⟩
  | 111 => ⟨S2x4x2048, .f32⟩
  | 112 => ⟨S2x4x2048, .f32⟩
  | 113 => ⟨S_, .f32⟩
  | 114 => ⟨S2x4x2048, .f32⟩
  | 115 => ⟨S2x4x2048, .f32⟩
  | 116 => ⟨S_, .f32⟩
  | 117 => ⟨S2x4x2048, .f32⟩
  | 118 => ⟨S2x4x2048, .f32⟩
  | 119 => ⟨S2x4x2048, .f32⟩
  | 120 => ⟨S2x4x2048, .f32⟩
  | 121 => ⟨S2x4x2048, .f32⟩
  | 122 => ⟨S2x4x2048, .f32⟩
  | 123 => ⟨S_, .f32⟩
  | 124 => ⟨S2x4x2048, .f32⟩
  | 125 => ⟨S2x4x2048, .f32⟩
  | 126 => ⟨S2x4x2048, .f32⟩
  | 127 => ⟨S_, .f32⟩
  | _ => ⟨S4x3x2048, .f32⟩

abbrev hbmTy0_3 (i : Nat) : BufTy := match i % 128 with
  | 0 => ⟨S2x4x2048, .f32⟩
  | 1 => ⟨S2x4x2048, .f32⟩
  | 2 => ⟨S2x4x2048, .f32⟩
  | 3 => ⟨S_, .f32⟩
  | 4 => ⟨S2x4x2048, .f32⟩
  | 5 => ⟨S2x4x2048, .f32⟩
  | 6 => ⟨S2x4x2048, .f32⟩
  | 7 => ⟨S_, .f32⟩
  | 8 => ⟨S2x4x2048, .f32⟩
  | 9 => ⟨S2x4x2048, .f32⟩
  | 10 => ⟨S_, .f32⟩
  | 11 => ⟨S2x4x2048, .f32⟩
  | 12 => ⟨S2x4x2048, .f32⟩
  | 13 => ⟨S2x4x2048, .f32⟩
  | 14 => ⟨S2x4x2048, .f32⟩
  | 15 => ⟨S2x4x2048, .f32⟩
  | 16 => ⟨S2x4x2048, .f32⟩
  | 17 => ⟨S_, .f32⟩
  | 18 => ⟨S2x4x2048, .f32⟩
  | 19 => ⟨S2x4x2048, .f32⟩
  | 20 => ⟨S2x4x2048, .f32⟩
  | 21 => ⟨S_, .f32⟩
  | 22 => ⟨S2x4x2048, .f32⟩
  | 23 => ⟨S2x4x2048, .f32⟩
  | 24 => ⟨S2x4x2048, .f32⟩
  | 25 => ⟨S_, .f32⟩
  | 26 => ⟨S2x4x2048, .f32⟩
  | 27 => ⟨S2x4x2048, .f32⟩
  | 28 => ⟨S2x4x2048, .f32⟩
  | 29 => ⟨S_, .f32⟩
  | 30 => ⟨S2x4x2048, .f32⟩
  | 31 => ⟨S2x4x2048, .f32⟩
  | 32 => ⟨S_, .f32⟩
  | 33 => ⟨S2x4x2048, .f32⟩
  | 34 => ⟨S2x4x2048, .f32⟩
  | 35 => ⟨S2x4x2048, .f32⟩
  | 36 => ⟨S2x4x2048, .f32⟩
  | 37 => ⟨S2x4x2048, .f32⟩
  | 38 => ⟨S2x4x2048, .f32⟩
  | 39 => ⟨S2x4x2048x1x1, .f32⟩
  | 40 => ⟨S3x3, .i32⟩
  | 41 => ⟨S3x3, .i32⟩
  | 42 => ⟨S_, .i32⟩
  | 43 => ⟨S3x3, .i32⟩
  | 44 => ⟨S3x3, .i32⟩
  | 45 => ⟨S3x3, .i1⟩
  | 46 => ⟨S3x3, .f32⟩
  | 47 => ⟨S1x1x1x3x3, .f32⟩
  | 48 => ⟨S2x4x2048x3x3, .f32⟩
  | 49 => ⟨S2x4x2048x3x3, .f32⟩
  | 50 => ⟨S2x4x2048x3x3, .f32⟩
  | 51 => ⟨S2x4x2048x3x3, .f32⟩
  | 52 => ⟨S2x4x2048x1x3, .f32⟩
  | 53 => ⟨S2x4x2048x3, .f32⟩
  | 54 => ⟨S2x4x2048x1x3, .f32⟩
  | 55 => ⟨S2x4x2048x3, .f32⟩
  | 56 => ⟨S2x4x2048x1x3, .f32⟩
  | 57 => ⟨S2x4x2048x3, .f32⟩
  | 58 => ⟨S2x4x2048x1, .f32⟩
  | 59 => ⟨S2x4x2048, .f32⟩
  | 60 => ⟨S2x4x2048x1, .f32⟩
  | 61 => ⟨S2x4x2048, .f32⟩
  | 62 => ⟨S2x4x2048, .f32⟩
  | 63 => ⟨S2x4x2048x1, .f32⟩
  | 64 => ⟨S2x4x2048, .f32⟩
  | 65 => ⟨S2x4x2048x1, .f32⟩
  | 66 => ⟨S2x4x2048, .f32⟩
  | 67 => ⟨S2x4x2048, .f32⟩
  | 68 => ⟨S2x4x2048, .f32⟩
  | 69 => ⟨S2x4x2048x1, .f32⟩
  | 70 => ⟨S2x4x2048, .f32⟩
  | 71 => ⟨S2x4x2048x1, .f32⟩
  | 72 => ⟨S2x4x2048, .f32⟩
  | 73 => ⟨S2x4x2048, .f32⟩
  | 74 => ⟨S2x4x2048x1, .f32⟩
  | 75 => ⟨S2x4x2048, .f32⟩
  | 76 => ⟨S2x4x2048x1, .f32⟩
  | 77 => ⟨S2x4x2048, .f32⟩
  | 78 => ⟨S2x4x2048, .f32⟩
  | 79 => ⟨S2x4x2048, .f32⟩
  | 80 => ⟨S2x4x2048x1, .f32⟩
  | 81 => ⟨S2x4x2048, .f32⟩
  | 82 => ⟨S2x4x2048x1, .f32⟩
  | 83 => ⟨S2x4x2048, .f32⟩
  | 84 => ⟨S2x4x2048, .f32⟩
  | 85 => ⟨S2x4x2048x1, .f32⟩
  | 86 => ⟨S2x4x2048, .f32⟩
  | 87 => ⟨S2x4x2048x1, .f32⟩
  | 88 => ⟨S2x4x2048, .f32⟩
  | 89 => ⟨S2x4x2048, .f32⟩
  | 90 => ⟨S2x4x2048, .f32⟩
  | 91 => ⟨S2x4x2048x1, .f32⟩
  | 92 => ⟨S2x4x2048x1, .f32⟩
  | 93 => ⟨S2x4x2048x1, .f32⟩
  | 94 => ⟨S2x4x2048x3, .f32⟩
  | 95 => ⟨S2x4x2048x1, .f32⟩
  | 96 => ⟨S2x4x2048, .f32⟩
  | 97 => ⟨S2x4x2048x1, .f32⟩
  | 98 => ⟨S2x4x2048, .f32⟩
  | 99 => ⟨S2x4x2048, .f32⟩
  | 100 => ⟨S2x4x2048x1, .f32⟩
  | 101 => ⟨S2x4x2048, .f32⟩
  | 102 => ⟨S2x4x2048x1, .f32⟩
  | 103 => ⟨S2x4x2048, .f32⟩
  | 104 => ⟨S2x4x2048, .f32⟩
  | 105 => ⟨S2x4x2048, .f32⟩
  | 106 => ⟨S2x4x2048x1, .f32⟩
  | 107 => ⟨S2x4x2048, .f32⟩
  | 108 => ⟨S2x4x2048x1, .f32⟩
  | 109 => ⟨S2x4x2048, .f32⟩
  | 110 => ⟨S2x4x2048, .f32⟩
  | 111 => ⟨S2x4x2048x1, .f32⟩
  | 112 => ⟨S2x4x2048, .f32⟩
  | 113 => ⟨S2x4x2048x1, .f32⟩
  | 114 => ⟨S2x4x2048, .f32⟩
  | 115 => ⟨S2x4x2048, .f32⟩
  | 116 => ⟨S2x4x2048, .f32⟩
  | 117 => ⟨S2x4x2048x1, .f32⟩
  | 118 => ⟨S2x4x2048, .f32⟩
  | 119 => ⟨S2x4x2048x1, .f32⟩
  | 120 => ⟨S2x4x2048, .f32⟩
  | 121 => ⟨S2x4x2048, .f32⟩
  | 122 => ⟨S2x4x2048x1, .f32⟩
  | 123 => ⟨S2x4x2048, .f32⟩
  | 124 => ⟨S2x4x2048x1, .f32⟩
  | 125 => ⟨S2x4x2048, .f32⟩
  | 126 => ⟨S2x4x2048, .f32⟩
  | 127 => ⟨S2x4x2048, .f32⟩
  | _ => ⟨S4x3x2048, .f32⟩

abbrev hbmTy0_4 (i : Nat) : BufTy := match i % 128 with
  | 0 => ⟨S2x4x2048x1, .f32⟩
  | 1 => ⟨S2x4x2048x1, .f32⟩
  | 2 => ⟨S2x4x2048x1, .f32⟩
  | 3 => ⟨S2x4x2048x3, .f32⟩
  | 4 => ⟨S2x4x2048x1, .f32⟩
  | 5 => ⟨S2x4x2048, .f32⟩
  | 6 => ⟨S2x4x2048x1, .f32⟩
  | 7 => ⟨S2x4x2048, .f32⟩
  | 8 => ⟨S2x4x2048, .f32⟩
  | 9 => ⟨S2x4x2048x1, .f32⟩
  | 10 => ⟨S2x4x2048, .f32⟩
  | 11 => ⟨S2x4x2048x1, .f32⟩
  | 12 => ⟨S2x4x2048, .f32⟩
  | 13 => ⟨S2x4x2048, .f32⟩
  | 14 => ⟨S2x4x2048, .f32⟩
  | 15 => ⟨S2x4x2048x1, .f32⟩
  | 16 => ⟨S2x4x2048, .f32⟩
  | 17 => ⟨S2x4x2048x1, .f32⟩
  | 18 => ⟨S2x4x2048, .f32⟩
  | 19 => ⟨S2x4x2048, .f32⟩
  | 20 => ⟨S2x4x2048x1, .f32⟩
  | 21 => ⟨S2x4x2048, .f32⟩
  | 22 => ⟨S2x4x2048x1, .f32⟩
  | 23 => ⟨S2x4x2048, .f32⟩
  | 24 => ⟨S2x4x2048, .f32⟩
  | 25 => ⟨S2x4x2048, .f32⟩
  | 26 => ⟨S2x4x2048x1, .f32⟩
  | 27 => ⟨S2x4x2048, .f32⟩
  | 28 => ⟨S2x4x2048x1, .f32⟩
  | 29 => ⟨S2x4x2048, .f32⟩
  | 30 => ⟨S2x4x2048, .f32⟩
  | 31 => ⟨S2x4x2048x1, .f32⟩
  | 32 => ⟨S2x4x2048, .f32⟩
  | 33 => ⟨S2x4x2048x1, .f32⟩
  | 34 => ⟨S2x4x2048, .f32⟩
  | 35 => ⟨S2x4x2048, .f32⟩
  | 36 => ⟨S2x4x2048, .f32⟩
  | 37 => ⟨S2x4x2048x1, .f32⟩
  | 38 => ⟨S2x4x2048x1, .f32⟩
  | 39 => ⟨S2x4x2048x1, .f32⟩
  | 40 => ⟨S2x4x2048x3, .f32⟩
  | 41 => ⟨S2x4x2048x3, .f32⟩
  | 42 => ⟨S_, .f32⟩
  | 43 => ⟨S2x4x2048, .f32⟩
  | 44 => ⟨S2x4x2048x3, .f32⟩
  | 45 => ⟨S_, .f32⟩
  | 46 => ⟨S2x4x2048, .f32⟩
  | 47 => ⟨S2x4x2048x3, .f32⟩
  | 48 => ⟨S_, .f32⟩
  | 49 => ⟨S2x4x2048, .f32⟩
  | 50 => ⟨S2x4x2048, .i1⟩
  | 51 => ⟨S2x4x2048, .i1⟩
  | 52 => ⟨S2x4x2048, .i1⟩
  | 53 => ⟨S2x4x2048x1, .i1⟩
  | 54 => ⟨S2x4x2048, .i1⟩
  | 55 => ⟨S2x4x2048x1, .i1⟩
  | 56 => ⟨S2x4x2048x3, .i1⟩
  | 57 => ⟨S2x4x2048x3, .f32⟩
  | 58 => ⟨S2x4x2048x3, .i1⟩
  | 59 => ⟨S2x4x2048x3, .f32⟩
  | 60 => ⟨S2x4x2048x3, .f32⟩
  | 61 => ⟨S_, .f32⟩
  | 62 => ⟨S2x4x2048, .f32⟩
  | 63 => ⟨S2x4x2048x1, .f32⟩
  | 64 => ⟨S_, .f32⟩
  | 65 => ⟨S2x4x2048x1, .f32⟩
  | 66 => ⟨S2x4x2048x1, .f32⟩
  | 67 => ⟨S2x4x2048x1, .f32⟩
  | 68 => ⟨S2x4x2048x3, .f32⟩
  | 69 => ⟨S2x4x2048x3, .f32⟩
  | 70 => ⟨S1x4x2048x3, .f32⟩
  | 71 => ⟨S4x2048x3, .f32⟩
  | 72 => ⟨S1x4x2048x3, .f32⟩
  | 73 => ⟨S4x2048x3, .f32⟩
  | 74 => ⟨S4x2048x3, .f32⟩
  | 75 => ⟨S_, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S_, .f32⟩
  | 82 => ⟨S_, .f32⟩
  | 83 => ⟨S_, .f32⟩
  | 84 => ⟨S_, .f32⟩
  | _ => ⟨S4x3x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x3x2048, .f32⟩

abbrev bufTy : (tb : Table) → Fin (tcTables nBuf tb) → BufTy
  | .hbm, ⟨i, _⟩ => hbmTy i
  | _, _ => ⟨S4x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_values : Ref sig .tc := ⟨.hbm, 18, rfl⟩
abbrev main_indices : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_values_7 : Ref sig .tc := ⟨.hbm, 57, rfl⟩
abbrev main_indices_8 : Ref sig .tc := ⟨.hbm, 58, rfl⟩
abbrev main_c_9 : Ref sig .tc := ⟨.hbm, 59, rfl⟩
abbrev main_v44 : Ref sig .tc := ⟨.hbm, 60, rfl⟩
abbrev main_v45 : Ref sig .tc := ⟨.hbm, 61, rfl⟩
abbrev main_c_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_15 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_16 : Ref sig .tc := ⟨.hbm, 117, rfl⟩
abbrev main_v95 : Ref sig .tc := ⟨.hbm, 118, rfl⟩
abbrev main_v96 : Ref sig .tc := ⟨.hbm, 119, rfl⟩
abbrev main_cst_17 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_18 : Ref sig .tc := ⟨.hbm, 144, rfl⟩
abbrev main_v120 : Ref sig .tc := ⟨.hbm, 145, rfl⟩
abbrev main_v121 : Ref sig .tc := ⟨.hbm, 146, rfl⟩
abbrev main_cst_19 : Ref sig .tc := ⟨.hbm, 147, rfl⟩
abbrev main_cst_20 : Ref sig .tc := ⟨.hbm, 148, rfl⟩
abbrev main_call0_v0 : Ref sig .tc := ⟨.hbm, 149, rfl⟩
abbrev main_call0_v1 : Ref sig .tc := ⟨.hbm, 150, rfl⟩
abbrev main_call0_v2 : Ref sig .tc := ⟨.hbm, 151, rfl⟩
abbrev main_call0_v3 : Ref sig .tc := ⟨.hbm, 152, rfl⟩
abbrev main_call0_v4 : Ref sig .tc := ⟨.hbm, 153, rfl⟩
abbrev main_v122 : Ref sig .tc := ⟨.hbm, 154, rfl⟩
abbrev main_cst_21 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_22 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_23 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_24 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_25 : Ref sig .tc := ⟨.hbm, 171, rfl⟩
abbrev main_v135 : Ref sig .tc := ⟨.hbm, 172, rfl⟩
abbrev main_v136 : Ref sig .tc := ⟨.hbm, 173, rfl⟩
abbrev main_cst_26 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_27 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_28 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_29 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_30 : Ref sig .tc := ⟨.hbm, 193, rfl⟩
abbrev main_v152 : Ref sig .tc := ⟨.hbm, 194, rfl⟩
abbrev main_v153 : Ref sig .tc := ⟨.hbm, 195, rfl⟩
abbrev main_cst_31 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_32 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_33 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_34 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_35 : Ref sig .tc := ⟨.hbm, 215, rfl⟩
abbrev main_v169 : Ref sig .tc := ⟨.hbm, 216, rfl⟩
abbrev main_v170 : Ref sig .tc := ⟨.hbm, 217, rfl⟩
abbrev main_cst_36 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_37 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_38 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_cst_39 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_40 : Ref sig .tc := ⟨.hbm, 237, rfl⟩
abbrev main_v186 : Ref sig .tc := ⟨.hbm, 238, rfl⟩
abbrev main_v187 : Ref sig .tc := ⟨.hbm, 239, rfl⟩
abbrev main_cst_41 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_cst_42 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_cst_43 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_44 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_45 : Ref sig .tc := ⟨.hbm, 259, rfl⟩
abbrev main_v203 : Ref sig .tc := ⟨.hbm, 260, rfl⟩
abbrev main_v204 : Ref sig .tc := ⟨.hbm, 261, rfl⟩
abbrev main_cst_46 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_cst_47 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_cst_48 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_cst_49 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_cst_50 : Ref sig .tc := ⟨.hbm, 281, rfl⟩
abbrev main_v220 : Ref sig .tc := ⟨.hbm, 282, rfl⟩
abbrev main_v221 : Ref sig .tc := ⟨.hbm, 283, rfl⟩
abbrev main_cst_51 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_cst_52 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_53 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_54 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_cst_55 : Ref sig .tc := ⟨.hbm, 303, rfl⟩
abbrev main_v237 : Ref sig .tc := ⟨.hbm, 304, rfl⟩
abbrev main_v238 : Ref sig .tc := ⟨.hbm, 305, rfl⟩
abbrev main_cst_56 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_cst_57 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_cst_58 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_cst_59 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_cst_60 : Ref sig .tc := ⟨.hbm, 325, rfl⟩
abbrev main_v254 : Ref sig .tc := ⟨.hbm, 326, rfl⟩
abbrev main_v255 : Ref sig .tc := ⟨.hbm, 327, rfl⟩
abbrev main_cst_61 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_cst_62 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_cst_63 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_cst_64 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_65 : Ref sig .tc := ⟨.hbm, 347, rfl⟩
abbrev main_v271 : Ref sig .tc := ⟨.hbm, 348, rfl⟩
abbrev main_v272 : Ref sig .tc := ⟨.hbm, 349, rfl⟩
abbrev main_cst_66 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_cst_67 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_cst_68 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_cst_69 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_cst_70 : Ref sig .tc := ⟨.hbm, 369, rfl⟩
abbrev main_v288 : Ref sig .tc := ⟨.hbm, 370, rfl⟩
abbrev main_v289 : Ref sig .tc := ⟨.hbm, 371, rfl⟩
abbrev main_cst_71 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_cst_72 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_cst_73 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_cst_74 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_cst_75 : Ref sig .tc := ⟨.hbm, 391, rfl⟩
abbrev main_v305 : Ref sig .tc := ⟨.hbm, 392, rfl⟩
abbrev main_v306 : Ref sig .tc := ⟨.hbm, 393, rfl⟩
abbrev main_cst_76 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_cst_77 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_cst_78 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_cst_79 : Ref sig .tc := ⟨.hbm, 409, rfl⟩
abbrev main_v319 : Ref sig .tc := ⟨.hbm, 410, rfl⟩
abbrev main_v320 : Ref sig .tc := ⟨.hbm, 411, rfl⟩
abbrev main_v321 : Ref sig .tc := ⟨.hbm, 412, rfl⟩
abbrev main_cst_80 : Ref sig .tc := ⟨.hbm, 413, rfl⟩
abbrev main_v322 : Ref sig .tc := ⟨.hbm, 414, rfl⟩
abbrev main_v323 : Ref sig .tc := ⟨.hbm, 415, rfl⟩
abbrev main_cst_81 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_c_82 : Ref sig .tc := ⟨.hbm, 426, rfl⟩
abbrev main_v333 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_v341 : Ref sig .tc := ⟨.hbm, 435, rfl⟩
abbrev main_v342 : Ref sig .tc := ⟨.hbm, 436, rfl⟩
abbrev main_v343 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_v374 : Ref sig .tc := ⟨.hbm, 468, rfl⟩
abbrev main_v375 : Ref sig .tc := ⟨.hbm, 469, rfl⟩
abbrev main_v376 : Ref sig .tc := ⟨.hbm, 470, rfl⟩
abbrev main_v377 : Ref sig .tc := ⟨.hbm, 471, rfl⟩
abbrev main_v378 : Ref sig .tc := ⟨.hbm, 472, rfl⟩
abbrev main_v379 : Ref sig .tc := ⟨.hbm, 473, rfl⟩
abbrev main_v380 : Ref sig .tc := ⟨.hbm, 474, rfl⟩
abbrev main_v381 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_v386 : Ref sig .tc := ⟨.hbm, 480, rfl⟩
abbrev main_v387 : Ref sig .tc := ⟨.hbm, 481, rfl⟩
abbrev main_v388 : Ref sig .tc := ⟨.hbm, 482, rfl⟩
abbrev main_v389 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_v393 : Ref sig .tc := ⟨.hbm, 487, rfl⟩
abbrev main_v394 : Ref sig .tc := ⟨.hbm, 488, rfl⟩
abbrev main_v395 : Ref sig .tc := ⟨.hbm, 489, rfl⟩
abbrev main_v396 : Ref sig .tc := ⟨.hbm, 490, rfl⟩
abbrev main_v397 : Ref sig .tc := ⟨.hbm, 491, rfl⟩
abbrev main_v398 : Ref sig .tc := ⟨.hbm, 492, rfl⟩
abbrev main_v399 : Ref sig .tc := ⟨.hbm, 493, rfl⟩
abbrev main_v400 : Ref sig .tc := ⟨.hbm, 494, rfl⟩
abbrev main_v401 : Ref sig .tc := ⟨.hbm, 495, rfl⟩
abbrev main_v402 : Ref sig .tc := ⟨.hbm, 496, rfl⟩
abbrev main_v403 : Ref sig .tc := ⟨.hbm, 497, rfl⟩
abbrev main_v404 : Ref sig .tc := ⟨.hbm, 498, rfl⟩
abbrev main_v405 : Ref sig .tc := ⟨.hbm, 499, rfl⟩
abbrev main_v406 : Ref sig .tc := ⟨.hbm, 500, rfl⟩
abbrev main_v407 : Ref sig .tc := ⟨.hbm, 501, rfl⟩
abbrev main_v408 : Ref sig .tc := ⟨.hbm, 502, rfl⟩
abbrev main_v409 : Ref sig .tc := ⟨.hbm, 503, rfl⟩
abbrev main_v410 : Ref sig .tc := ⟨.hbm, 504, rfl⟩
abbrev main_v411 : Ref sig .tc := ⟨.hbm, 505, rfl⟩
abbrev main_v412 : Ref sig .tc := ⟨.hbm, 506, rfl⟩
abbrev main_v413 : Ref sig .tc := ⟨.hbm, 507, rfl⟩
abbrev main_v414 : Ref sig .tc := ⟨.hbm, 508, rfl⟩
abbrev main_v415 : Ref sig .tc := ⟨.hbm, 509, rfl⟩
abbrev main_v416 : Ref sig .tc := ⟨.hbm, 510, rfl⟩
abbrev main_v417 : Ref sig .tc := ⟨.hbm, 511, rfl⟩
abbrev main_v418 : Ref sig .tc := ⟨.hbm, 512, rfl⟩
abbrev main_v419 : Ref sig .tc := ⟨.hbm, 513, rfl⟩
abbrev main_v420 : Ref sig .tc := ⟨.hbm, 514, rfl⟩
abbrev main_v421 : Ref sig .tc := ⟨.hbm, 515, rfl⟩
abbrev main_v422 : Ref sig .tc := ⟨.hbm, 516, rfl⟩
abbrev main_v423 : Ref sig .tc := ⟨.hbm, 517, rfl⟩
abbrev main_v424 : Ref sig .tc := ⟨.hbm, 518, rfl⟩
abbrev main_v425 : Ref sig .tc := ⟨.hbm, 519, rfl⟩
abbrev main_v426 : Ref sig .tc := ⟨.hbm, 520, rfl⟩
abbrev main_v427 : Ref sig .tc := ⟨.hbm, 521, rfl⟩
abbrev main_v428 : Ref sig .tc := ⟨.hbm, 522, rfl⟩
abbrev main_v429 : Ref sig .tc := ⟨.hbm, 523, rfl⟩
abbrev main_v430 : Ref sig .tc := ⟨.hbm, 524, rfl⟩
abbrev main_v431 : Ref sig .tc := ⟨.hbm, 525, rfl⟩
abbrev main_v432 : Ref sig .tc := ⟨.hbm, 526, rfl⟩
abbrev main_v433 : Ref sig .tc := ⟨.hbm, 527, rfl⟩
abbrev main_v434 : Ref sig .tc := ⟨.hbm, 528, rfl⟩
abbrev main_v435 : Ref sig .tc := ⟨.hbm, 529, rfl⟩
abbrev main_v436 : Ref sig .tc := ⟨.hbm, 530, rfl⟩
abbrev main_v437 : Ref sig .tc := ⟨.hbm, 531, rfl⟩
abbrev main_v438 : Ref sig .tc := ⟨.hbm, 532, rfl⟩
abbrev main_v439 : Ref sig .tc := ⟨.hbm, 533, rfl⟩
abbrev main_v440 : Ref sig .tc := ⟨.hbm, 534, rfl⟩
abbrev main_v441 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_v446 : Ref sig .tc := ⟨.hbm, 540, rfl⟩
abbrev main_v447 : Ref sig .tc := ⟨.hbm, 541, rfl⟩
abbrev main_v448 : Ref sig .tc := ⟨.hbm, 542, rfl⟩
abbrev main_v449 : Ref sig .tc := ⟨.hbm, 543, rfl⟩
abbrev main_v450 : Ref sig .tc := ⟨.hbm, 544, rfl⟩
abbrev main_v451 : Ref sig .tc := ⟨.hbm, 545, rfl⟩
abbrev main_v452 : Ref sig .tc := ⟨.hbm, 546, rfl⟩
abbrev main_v453 : Ref sig .tc := ⟨.hbm, 547, rfl⟩
abbrev main_v454 : Ref sig .tc := ⟨.hbm, 548, rfl⟩
abbrev main_v455 : Ref sig .tc := ⟨.hbm, 549, rfl⟩
abbrev main_v456 : Ref sig .tc := ⟨.hbm, 550, rfl⟩
abbrev main_v457 : Ref sig .tc := ⟨.hbm, 551, rfl⟩
abbrev main_v458 : Ref sig .tc := ⟨.hbm, 552, rfl⟩
abbrev main_v459 : Ref sig .tc := ⟨.hbm, 553, rfl⟩
abbrev main_cst_83 : Ref sig .tc := ⟨.hbm, 554, rfl⟩
abbrev main_v460 : Ref sig .tc := ⟨.hbm, 555, rfl⟩
abbrev main_v461 : Ref sig .tc := ⟨.hbm, 556, rfl⟩
abbrev main_cst_84 : Ref sig .tc := ⟨.hbm, 557, rfl⟩
abbrev main_v462 : Ref sig .tc := ⟨.hbm, 558, rfl⟩
abbrev main_v463 : Ref sig .tc := ⟨.hbm, 559, rfl⟩
abbrev main_cst_85 : Ref sig .tc := ⟨.hbm, 560, rfl⟩
abbrev main_v464 : Ref sig .tc := ⟨.hbm, 561, rfl⟩
abbrev main_v465 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_call1_v0 : Ref sig .tc := ⟨.hbm, 568, rfl⟩
abbrev main_v471 : Ref sig .tc := ⟨.hbm, 569, rfl⟩
abbrev main_call2_v0 : Ref sig .tc := ⟨.hbm, 570, rfl⟩
abbrev main_v472 : Ref sig .tc := ⟨.hbm, 571, rfl⟩
abbrev main_v473 : Ref sig .tc := ⟨.hbm, 572, rfl⟩
abbrev main_cst_86 : Ref sig .tc := ⟨.hbm, 573, rfl⟩
abbrev main_v474 : Ref sig .tc := ⟨.hbm, 574, rfl⟩
abbrev main_v475 : Ref sig .tc := ⟨.hbm, 575, rfl⟩
abbrev main_cst_87 : Ref sig .tc := ⟨.hbm, 576, rfl⟩
abbrev main_v476 : Ref sig .tc := ⟨.hbm, 577, rfl⟩
abbrev main_v477 : Ref sig .tc := ⟨.hbm, 578, rfl⟩
abbrev main_v478 : Ref sig .tc := ⟨.hbm, 579, rfl⟩
abbrev main_v479 : Ref sig .tc := ⟨.hbm, 580, rfl⟩
abbrev main_v480 : Ref sig .tc := ⟨.hbm, 581, rfl⟩
abbrev main_v481 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_cst_88 : Ref sig .tc := ⟨.hbm, 587, rfl⟩
abbrev main_v486 : Ref sig .tc := ⟨.hbm, 588, rfl⟩
abbrev main_v487 : Ref sig .tc := ⟨.hbm, 589, rfl⟩
abbrev main_cst_89 : Ref sig .tc := ⟨.hbm, 590, rfl⟩
abbrev main_v488 : Ref sig .tc := ⟨.hbm, 591, rfl⟩
abbrev main_v489 : Ref sig .tc := ⟨.hbm, 592, rfl⟩
abbrev main_cst_90 : Ref sig .tc := ⟨.hbm, 593, rfl⟩
abbrev main_v490 : Ref sig .tc := ⟨.hbm, 594, rfl⟩
abbrev main_cst_91 : Ref sig .tc := ⟨.hbm, 595, rfl⟩
abbrev main_v491 : Ref sig .tc := ⟨.hbm, 596, rfl⟩

abbrev nD : Nat := 1
abbrev τ : Topo := Topo.v7x

variable {F : FTy → Type} [FloatOps F]
-- ==== Proof.KStep.lean ====
/- One grid point of the kernel as a function of what the point reads: the chain of the values of the body, first for the
   cloud of `pred` (`P…`), then for the cloud of `gt` (`G…`), and the new value of the running sum. -/
module

public import proofs.«01_k».proof.Proof.Gen.KernelIdeal.Frame

@[expose] public section

set_option maxRecDepth 16384

noncomputable section

namespace Cert.Nearest

open Idealize.ShloMosaic Cert.KernelIdeal Cert.KernelIdeal.Gen

variable {F : FTy → Type} [FloatOps F] [Named F]

/-- What one cloud's half of a grid point reads: the block of rows, the whole cloud, the sixteen chunks of the half squared
    norms, the two feature arrays. -/
structure Half (F : FTy → Type) where
  rows : Vec F S1x512x128 .f32
  cloud : Vec F S1x128x2048 .f32
  q0 : Vec F S1x128 .f32
  q1 : Vec F S1x128 .f32
  q2 : Vec F S1x128 .f32
  q3 : Vec F S1x128 .f32
  q4 : Vec F S1x128 .f32
  q5 : Vec F S1x128 .f32
  q6 : Vec F S1x128 .f32
  q7 : Vec F S1x128 .f32
  q8 : Vec F S1x128 .f32
  q9 : Vec F S1x128 .f32
  q10 : Vec F S1x128 .f32
  q11 : Vec F S1x128 .f32
  q12 : Vec F S1x128 .f32
  q13 : Vec F S1x128 .f32
  q14 : Vec F S1x128 .f32
  q15 : Vec F S1x128 .f32
  fhi : Vec F S2048x16 .bf16
  flo : Vec F S2048x16 .bf16

/-! The values of the first half of a grid point's step, the prediction's, in the order of the kernel's text. -/

def P0 (h : Half F) : FVec F S512x2048 .f32 := k0_pay16 h.rows h.cloud
def P1 (h : Half F) : FVec F S512x128 .f32 := k0_pay19 h.rows h.cloud h.q0 h.q1
def P2 (h : Half F) : FVec F S512x128 .f32 := k0_pay20 h.rows h.cloud h.q0 h.q1
def P3 (h : Half F) : FVec F S512x128 .f32 := k0_pay23 h.rows h.cloud h.q2 h.q3
def P4 (h : Half F) : FVec F S512x128 .f32 := k0_pay24 h.rows h.cloud h.q2 h.q3
def P5 (h : Half F) : FVec F S512x128 .f32 := k0_pay25 h.rows h.cloud h.q4
def P6 (h : Half F) : FVec F S512x128 .f32 := k0_pay26 h.rows h.cloud h.q5
def P7 (h : Half F) : FVec F S512x128 .f32 := k0_pay27 (P5 h) (P6 h)
def P8 (h : Half F) : FVec F S512x128 .f32 := k0_pay28 (P5 h) (P6 h)
def P9 (h : Half F) : FVec F S512x128 .f32 := k0_pay31 (P0 h) h.q6 h.q7
def P10 (h : Half F) : FVec F S512x128 .f32 := k0_pay32 (P0 h) h.q6 h.q7
def P11 (h : Half F) : FVec F S512x128 .f32 := k0_pay35 (P0 h) h.q8 h.q9
def P12 (h : Half F) : FVec F S512x128 .f32 := k0_pay36 (P0 h) h.q8 h.q9
def P13 (h : Half F) : FVec F S512x128 .f32 := k0_pay39 (P0 h) h.q10 h.q11
def P14 (h : Half F) : FVec F S512x128 .f32 := k0_pay40 (P0 h) h.q10 h.q11
def P15 (h : Half F) : FVec F S512x128 .f32 := k0_pay43 (P0 h) h.q12 h.q13
def P16 (h : Half F) : FVec F S512x128 .f32 := k0_pay44 (P0 h) h.q12 h.q13
def P17 (h : Half F) : FVec F S512x256 .f32 := k0_pay45 (P0 h) (P1 h) (P2 h) (P3 h) (P4 h) (P7 h) (P8 h) (P9 h) (P10 h) (P11 h) (P12 h) (P13 h) (P14 h) (P15 h) (P16 h) h.q14 h.q15
def P18 (h : Half F) : FVec F S512x1 .f32 := k0_pay46 (P0 h) (P1 h) (P2 h) (P3 h) (P4 h) (P7 h) (P8 h) (P9 h) (P10 h) (P11 h) (P12 h) (P13 h) (P14 h) (P15 h) (P16 h) h.q14 h.q15
def P19 (h : Half F) : FVec F S512x1 .f32 := k0_pay47 (P17 h) (P18 h)
def P20 (h : Half F) : FVec F S1x128 .f32 := h.q0
def P21 (h : Half F) : FVec F S512x128 .f32 := k0_pay48 (P0 h)
def P22 (h : Half F) : IVec S512x128 1 := k0_pay49 (P19 h) (P20 h) (P21 h)
def P23 (h : Half F) : IVec S512x128 1 := k0_pay50 (P0 h) (P19 h) h.q1
def P24 (h : Half F) : IVec S512x128 1 := k0_pay51 (P0 h) (P19 h) h.q2
def P25 (h : Half F) : IVec S512x128 1 := k0_pay52 (P0 h) (P19 h) h.q3
def P26 (h : Half F) : IVec S512x128 1 := k0_pay53 (P0 h) (P19 h) h.q4
def P27 (h : Half F) : IVec S512x128 1 := k0_pay54 (P0 h) (P19 h) h.q5
def P28 (h : Half F) : IVec S512x128 1 := k0_pay55 (P0 h) (P19 h) h.q6
def P29 (h : Half F) : IVec S512x128 1 := k0_pay56 (P0 h) (P19 h) h.q7
def P30 (h : Half F) : IVec S512x128 1 := k0_pay57 (P0 h) (P19 h) h.q8
def P31 (h : Half F) : IVec S512x128 1 := k0_pay58 (P0 h) (P19 h) h.q9
def P32 (h : Half F) : IVec S512x128 1 := k0_pay59 (P0 h) (P19 h) h.q10
def P33 (h : Half F) : IVec S512x128 1 := k0_pay60 (P0 h) (P19 h) h.q11
def P34 (h : Half F) : IVec S512x128 1 := k0_pay61 (P0 h) (P19 h) h.q12
def P35 (h : Half F) : IVec S512x128 1 := k0_pay62 (P0 h) (P19 h) h.q13
def P36 (h : Half F) : IVec S512x128 1 := k0_pay63 (P0 h) (P19 h) h.q14
def P37 (h : Half F) : FVec F S1x128 .f32 := h.q15
def P38 (h : Half F) : FVec F S512x128 .f32 := k0_pay64 (P0 h)
def P39 (h : Half F) : FVec F S1x512 .f32 := k0_pay70 (P19 h) (P22 h) (P23 h) (P24 h) (P25 h) (P26 h) (P27 h) (P28 h) (P29 h) (P30 h) (P31 h) (P32 h) (P33 h) (P34 h) (P35 h) (P36 h) (P37 h) (P38 h) h.fhi h.flo
def P40 (h : Half F) : FVec F S1x512 .f32 := k0_pay71 (P19 h) (P22 h) (P23 h) (P24 h) (P25 h) (P26 h) (P27 h) (P28 h) (P29 h) (P30 h) (P31 h) (P32 h) (P33 h) (P34 h) (P35 h) (P36 h) (P37 h) (P38 h) h.fhi h.flo
def P41 (h : Half F) : FVec F S1x512 .f32 := k0_pay72 (P19 h) (P22 h) (P23 h) (P24 h) (P25 h) (P26 h) (P27 h) (P28 h) (P29 h) (P30 h) (P31 h) (P32 h) (P33 h) (P34 h) (P35 h) (P36 h) (P37 h) (P38 h) h.fhi h.flo
def P42 (h : Half F) : FVec F S1x512 .f32 := k0_pay73 (P19 h) (P22 h) (P23 h) (P24 h) (P25 h) (P26 h) (P27 h) (P28 h) (P29 h) (P30 h) (P31 h) (P32 h) (P33 h) (P34 h) (P35 h) (P36 h) (P37 h) (P38 h) h.fhi h.flo
def P43 (h : Half F) : FVec F S1x512 .f32 := k0_pay74 (P19 h) (P22 h) (P23 h) (P24 h) (P25 h) (P26 h) (P27 h) (P28 h) (P29 h) (P30 h) (P31 h) (P32 h) (P33 h) (P34 h) (P35 h) (P36 h) (P37 h) (P38 h) h.fhi h.flo
def P44 (h : Half F) : FVec F S1x512 .f32 := k0_pay75 (P19 h) (P22 h) (P23 h) (P24 h) (P25 h) (P26 h) (P27 h) (P28 h) (P29 h) (P30 h) (P31 h) (P32 h) (P33 h) (P34 h) (P35 h) (P36 h) (P37 h) (P38 h) h.fhi h.flo
def P45 (h : Half F) : FVec F S1x512 .f32 := k0_pay76 (P19 h) (P22 h) (P23 h) (P24 h) (P25 h) (P26 h) (P27 h) (P28 h) (P29 h) (P30 h) (P31 h) (P32 h) (P33 h) (P34 h) (P35 h) (P36 h) (P37 h) (P38 h) h.fhi h.flo
def P46 (h : Half F) : FVec F S1x512 .f32 := k0_pay77 (P19 h) (P22 h) (P23 h) (P24 h) (P25 h) (P26 h) (P27 h) (P28 h) (P29 h) (P30 h) (P31 h) (P32 h) (P33 h) (P34 h) (P35 h) (P36 h) (P37 h) (P38 h) h.fhi h.flo
def P47 (h : Half F) : FVec F S1x512 .f32 := k0_pay80 (P40 h) (P41 h) (P42 h) (P43 h) (P44 h) (P45 h) (P46 h)
def P48 (h : Half F) : FVec F S1x512 .f32 := k0_pay81 (P40 h) (P41 h) (P42 h) (P43 h) (P44 h) (P45 h) (P46 h)
def P49 (h : Half F) : FVec F S1x512 .f32 := k0_pay84 (P48 h) k0_pay82 k0_pay83 (Scalar.ofBits .f32 0x40400000#32)
def P50 (h : Half F) : FVec F S1x512 .f32 := k0_pay85 (P48 h) k0_pay82 k0_pay83 (Scalar.ofBits .f32 0x40400000#32)
def P51 (h : Half F) : FVec F S1x512 .f32 := k0_pay86 (P48 h) k0_pay82 k0_pay83 (Scalar.ofBits .f32 0x40400000#32)
def P52 (h : Half F) : FVec F S1x512 .f32 := k0_pay88 (P48 h) (P49 h) (P50 h) (P51 h) k0_pay87
def P53 (h : Half F) : FVec F S1x512 .f32 := k0_pay89 (P48 h) (P49 h) (P50 h) (P51 h) k0_pay87
def P54 (h : Half F) : FVec F S1x512 .f32 := k0_pay90 (P48 h) (P49 h) (P50 h) (P51 h) k0_pay87
def P55 (h : Half F) : FVec F S1x512 .f32 := k0_pay91 (P48 h) (P52 h) (P53 h) (P54 h)
def P56 (h : Half F) : FVec F S1x512 .f32 := k0_pay92 (P48 h) (P52 h) (P53 h) (P54 h)
def P57 (h : Half F) : FVec F S1x512 .f32 := k0_pay93 (P48 h) (P55 h) (P56 h) (Scalar.ofBits .f32 0x40000000#32)
def P58 (h : Half F) : FVec F S1x512 .f32 := k0_pay94 (P48 h) (P55 h) (P56 h) (Scalar.ofBits .f32 0x40000000#32)
def P59 (h : Half F) : FVec F S1x512 .f32 := k0_pay99 (P40 h) (P42 h) (P43 h) (P44 h) (P45 h) (P47 h) (P48 h) (P57 h) (P58 h)
def P60 (h : Half F) : FVec F S1x512 .f32 := k0_pay100 (P39 h) (P42 h) (P43 h) (P44 h) (P45 h) (P47 h) (P48 h) (P57 h) (P58 h)
def P61 (h : Half F) : FVec F S1x512 .f32 := k0_pay101 (P39 h) (P40 h) (P42 h) (P45 h) (P47 h) (P48 h) (P57 h) (P58 h)
def P62 (h : Half F) : FVec F S1x512 .f32 := k0_pay102 (P41 h) (P42 h) (P43 h) (P44 h) (P45 h) (P47 h) (P48 h) (P57 h) (P58 h)
def P63 (h : Half F) : FVec F S1x512 .f32 := k0_pay103 (P39 h) (P41 h) (P43 h) (P45 h) (P47 h) (P48 h) (P57 h) (P58 h)
def P64 (h : Half F) : FVec F S1x512 .f32 := k0_pay104 (P39 h) (P42 h) (P43 h) (P44 h) (P45 h) (P47 h) (P48 h) (P57 h) (P58 h)
def P65 (h : Half F) : FVec F S1x512 .f32 := k0_pay105 (P40 h) (P41 h) (P44 h) (P45 h) (P47 h) (P48 h) (P57 h) (P58 h)
def P66 (h : Half F) : FVec F S1x512 .f32 := k0_pay106 (P41 h) (P42 h) (P43 h) (P44 h) (P45 h) (P47 h) (P48 h) (P57 h) (P58 h)
def P67 (h : Half F) : FVec F S1x512 .f32 := k0_pay107 (P40 h) (P42 h) (P43 h) (P44 h) (P45 h) (P47 h) (P48 h) (P57 h) (P58 h)
def P68 (h : Half F) : FVec F S1x512 .f32 := k0_pay108 (P39 h) (P40 h) (P42 h) (P43 h) (P44 h) (P45 h) (P47 h) (P48 h) (P57 h) (P58 h)
def P69 (h : Half F) : FVec F S1x512 .f32 := k0_pay109 (P41 h) (P42 h) (P43 h) (P44 h) (P45 h) (P47 h) (P48 h) (P57 h) (P58 h)
def P70 (h : Half F) : FVec F S1x512 .f32 := k0_pay110 (P39 h) (P41 h) (P43 h) (P45 h) (P47 h) (P48 h) (P57 h) (P58 h)
def P71 (h : Half F) : FVec F S1x512 .f32 := k0_pay119 (P59 h) (P60 h) (P61 h) (P62 h) (P63 h) (P64 h) (P65 h) (P66 h) (P67 h) (P68 h) (P69 h) (P70 h)
def P72 (h : Half F) : FVec F S1x512 .f32 := k0_pay120 (P59 h) (P60 h) (P61 h) (P62 h) (P63 h) (P64 h) (P65 h) (P66 h) (P67 h) (P68 h) (P69 h) (P70 h)
def P73 (h : Half F) : FVec F S1x512 .f32 := k0_pay121 (P59 h) (P60 h) (P61 h) (P62 h) (P63 h) (P64 h) (P65 h) (P66 h) (P67 h) (P68 h) (P69 h) (P70 h)

/-! The values of the second half of a grid point's step, the target's, in the order of the kernel's text. -/

def G74 (h : Half F) : FVec F S512x2048 .f32 := k0_pay122 h.rows h.cloud
def G75 (h : Half F) : FVec F S512x128 .f32 := k0_pay125 h.rows h.cloud h.q0 h.q1
def G76 (h : Half F) : FVec F S512x128 .f32 := k0_pay126 h.rows h.cloud h.q0 h.q1
def G77 (h : Half F) : FVec F S512x128 .f32 := k0_pay129 (G74 h) h.q2 h.q3
def G78 (h : Half F) : FVec F S512x128 .f32 := k0_pay130 (G74 h) h.q2 h.q3
def G79 (h : Half F) : FVec F S512x128 .f32 := k0_pay133 (G74 h) h.q4 h.q5
def G80 (h : Half F) : FVec F S512x128 .f32 := k0_pay134 (G74 h) h.q4 h.q5
def G81 (h : Half F) : FVec F S512x128 .f32 := k0_pay137 (G74 h) h.q6 h.q7
def G82 (h : Half F) : FVec F S512x128 .f32 := k0_pay138 (G74 h) h.q6 h.q7
def G83 (h : Half F) : FVec F S512x128 .f32 := k0_pay141 (G74 h) h.q8 h.q9
def G84 (h : Half F) : FVec F S512x128 .f32 := k0_pay142 (G74 h) h.q8 h.q9
def G85 (h : Half F) : FVec F S512x128 .f32 := k0_pay143 (G74 h)
def G86 (h : Half F) : FVec F S512x128 .f32 := k0_pay144 h.q10
def G87 (h : Half F) : FVec F S512x128 .f32 := k0_pay158 (G75 h) (G77 h) (G79 h) (G81 h)
def G88 (h : Half F) : FVec F S512x128 .f32 := k0_pay159 (G75 h) (G76 h) (G77 h) (G78 h) (G79 h) (G80 h) (G81 h) (G82 h)
def G89 (h : Half F) : FVec F S512x128 .f32 := k0_pay160 (G74 h) (G83 h) (G85 h) (G86 h) h.q11 h.q12 h.q13 h.q14 h.q15
def G90 (h : Half F) : FVec F S512x128 .f32 := k0_pay161 (G74 h) (G83 h) (G85 h) (G86 h) h.q11 h.q12 h.q13 h.q14 h.q15
def G91 (h : Half F) : FVec F S512x128 .f32 := k0_pay162 (G74 h) (G83 h) (G84 h) (G85 h) (G86 h) h.q11 h.q12 h.q13 h.q14 h.q15
def G92 (h : Half F) : FVec F S512x256 .f32 := k0_pay163 (G87 h) (G88 h) (G89 h) (G90 h) (G91 h)
def G93 (h : Half F) : IVec S512x256 1 := k0_pay164 (G87 h) (G88 h) (G89 h) (G90 h) (G91 h)
def G94 (h : Half F) : FVec F S512x1 .f32 := k0_pay165 (G92 h) (G93 h) (Scalar.ofBits .f32 0x7F800000#32)
def G95 (h : Half F) : IVec S512x128 1 := k0_pay166 (G74 h) (G92 h) (G93 h) (Scalar.ofBits .f32 0x7F800000#32) h.q0
def G96 (h : Half F) : IVec S512x128 1 := k0_pay167 (G74 h) (G92 h) (G93 h) (Scalar.ofBits .f32 0x7F800000#32) h.q1
def G97 (h : Half F) : IVec S512x128 1 := k0_pay168 (G74 h) (G92 h) (G93 h) (Scalar.ofBits .f32 0x7F800000#32) h.q2
def G98 (h : Half F) : IVec S512x128 1 := k0_pay169 (G74 h) (G92 h) (G93 h) (Scalar.ofBits .f32 0x7F800000#32) h.q3
def G99 (h : Half F) : FVec F S512x128 .f32 := k0_pay170 (G74 h) h.q4
def G100 (h : Half F) : FVec F S512x128 .f32 := k0_pay171 (G92 h) (G93 h) (Scalar.ofBits .f32 0x7F800000#32)
def G101 (h : Half F) : IVec S512x128 1 := k0_pay172 (G99 h) (G100 h)
def G102 (h : Half F) : IVec S512x128 1 := k0_pay173 (G74 h) (G94 h) h.q5
def G103 (h : Half F) : IVec S512x128 1 := k0_pay174 (G74 h) (G94 h) h.q6
def G104 (h : Half F) : IVec S512x128 1 := k0_pay175 (G74 h) (G94 h) h.q7
def G105 (h : Half F) : IVec S512x128 1 := k0_pay176 (G74 h) (G94 h) h.q8
def G106 (h : Half F) : IVec S512x128 1 := k0_pay177 (G74 h) (G94 h) h.q9
def G107 (h : Half F) : IVec S512x128 1 := k0_pay178 (G74 h) (G94 h) h.q10
def G108 (h : Half F) : IVec S512x128 1 := k0_pay179 (G74 h) (G94 h) h.q11
def G109 (h : Half F) : FVec F S1x128 .f32 := h.q12
def G110 (h : Half F) : FVec F S16x512 .f32 := k0_pay180 (G74 h) (G94 h) (G95 h) (G96 h) (G97 h) (G98 h) (G101 h) (G102 h) (G103 h) (G104 h) (G105 h) (G106 h) (G107 h) (G108 h) (G109 h) h.q13 h.q14 h.q15 h.fhi h.flo
def G111 (h : Half F) : FVec F S1x512 .f32 := k0_pay181 (G74 h) (G94 h) (G95 h) (G96 h) (G97 h) (G98 h) (G101 h) (G102 h) (G103 h) (G104 h) (G105 h) (G106 h) (G107 h) (G108 h) (G109 h) h.q13 h.q14 h.q15 h.fhi h.flo
def G112 (h : Half F) : FVec F S1x512 .f32 := k0_pay182 (G74 h) (G94 h) (G95 h) (G96 h) (G97 h) (G98 h) (G101 h) (G102 h) (G103 h) (G104 h) (G105 h) (G106 h) (G107 h) (G108 h) (G109 h) h.q13 h.q14 h.q15 h.fhi h.flo
def G113 (h : Half F) : FVec F S1x512 .f32 := k0_pay183 (G74 h) (G94 h) (G95 h) (G96 h) (G97 h) (G98 h) (G101 h) (G102 h) (G103 h) (G104 h) (G105 h) (G106 h) (G107 h) (G108 h) (G109 h) h.q13 h.q14 h.q15 h.fhi h.flo
def G114 (h : Half F) : FVec F S1x512 .f32 := k0_pay184 (G74 h) (G94 h) (G95 h) (G96 h) (G97 h) (G98 h) (G101 h) (G102 h) (G103 h) (G104 h) (G105 h) (G106 h) (G107 h) (G108 h) (G109 h) h.q13 h.q14 h.q15 h.fhi h.flo
def G115 (h : Half F) : FVec F S1x512 .f32 := k0_pay185 (G74 h) (G94 h) (G95 h) (G96 h) (G97 h) (G98 h) (G101 h) (G102 h) (G103 h) (G104 h) (G105 h) (G106 h) (G107 h) (G108 h) (G109 h) h.q13 h.q14 h.q15 h.fhi h.flo
def G116 (h : Half F) : FVec F S1x512 .f32 := k0_pay186 (G74 h) (G94 h) (G95 h) (G96 h) (G97 h) (G98 h) (G101 h) (G102 h) (G103 h) (G104 h) (G105 h) (G106 h) (G107 h) (G108 h) (G109 h) h.q13 h.q14 h.q15 h.fhi h.flo
def G117 (h : Half F) : FVec F S1x512 .f32 := k0_pay187 (G111 h) (G113 h) (G116 h)
def G118 (h : Half F) : FVec F S1x512 .f32 := k0_pay188 (G110 h) (G111 h) (G114 h)
def G119 (h : Half F) : FVec F S1x512 .f32 := k0_pay189 (G110 h) (G111 h) (G112 h) (G113 h)
def G120 (h : Half F) : FVec F S1x512 .f32 := k0_pay190 (G110 h) (G111 h) (G112 h) (G114 h)
def G121 (h : Half F) : FVec F S1x512 .f32 := k0_pay191 (G110 h) (G111 h) (G113 h) (G114 h)
def G122 (h : Half F) : FVec F S1x512 .f32 := k0_pay192 (G110 h) (G111 h) (G113 h) (G114 h) (G115 h) (G116 h)
def G123 (h : Half F) : FVec F S1x512 .f32 := k0_pay196 (G110 h) (G111 h) (G112 h) (G113 h) (G114 h) (G115 h) (G116 h)
def G124 (h : Half F) : FVec F S1x512 .f32 := k0_pay198 (G110 h) (G111 h) (G112 h) (G113 h) (G114 h) (G115 h) (G116 h)
def G125 (h : Half F) : FVec F S1x512 .f32 := k0_pay199 (G110 h) (G111 h) (G112 h) (G113 h) (G114 h) (G115 h) (G116 h)
def G126 (h : Half F) : FVec F S1x512 .f32 := k0_pay200 (G110 h) (G111 h) (G112 h) (G113 h) (G114 h) (G115 h) (G116 h)
def G127 (h : Half F) : FVec F S1x512 .f32 := k0_pay201 (G110 h) (G111 h) (G112 h) (G113 h) (G114 h) (G115 h) (G116 h)
def G128 (h : Half F) : FVec F S1x512 .f32 := k0_pay202 (G110 h) (G111 h) (G112 h) (G113 h) (G114 h) (G115 h) (G116 h)
def G129 (h : Half F) : FVec F S1x512 .f32 := k0_pay203 (G110 h) (G111 h) (G112 h) (G113 h) (G114 h) (G115 h) (G116 h)
def G130 (h : Half F) : FVec F S1x512 .f32 := k0_pay204 (G110 h) (G111 h) (G112 h) (G113 h) (G114 h) (G115 h) (G116 h)
def G131 (h : Half F) : FVec F S1x512 .f32 := k0_pay205 (G124 h) (G125 h) (G126 h) (G127 h) (G128 h) (G129 h) (G130 h)
def G132 (h : Half F) : FVec F S1x512 .f32 := k0_pay206 (G124 h) (G125 h) (G126 h) (G127 h) (G128 h) (G129 h) (G130 h)
def G133 (h : Half F) : FVec F S1x512 .f32 := k0_pay207 (G124 h) (G125 h) (G126 h) (G127 h) (G128 h) (G129 h) (G130 h)
def G134 (h : Half F) : FVec F S1x512 .f32 := k0_pay208 (G124 h) (G125 h) (G126 h) (G127 h) (G128 h) (G129 h) (G130 h)
def G135 (h : Half F) : FVec F S1x512 .f32 := k0_pay210 (G131 h) (G132 h) (G133 h) (G134 h) k0_pay209
def G136 (h : Half F) : FVec F S1x512 .f32 := k0_pay211 (G131 h) (G132 h) (G133 h) (G134 h) k0_pay209
def G137 (h : Half F) : FVec F S1x512 .f32 := k0_pay212 (G131 h) (G135 h) (G136 h)
def G138 (h : Half F) : FVec F S1x512 .f32 := k0_pay213 (G131 h) (G135 h) (G136 h)
def G139 (h : Half F) : FVec F S1x512 .f32 := k0_pay215 (G131 h) (G137 h) (G138 h) k0_pay214
def G140 (h : Half F) : FVec F S1x512 .f32 := k0_pay216 (G131 h) (G137 h) (G138 h) k0_pay214
def G141 (h : Half F) : FVec F S1x512 .f32 := k0_pay217 (G131 h) (G137 h) (G138 h) k0_pay214
def G142 (h : Half F) : FVec F S1x512 .f32 := k0_pay219 (G115 h) (G122 h) (G123 h) (G131 h) (G139 h) (G140 h) (G141 h)
def G143 (h : Half F) : FVec F S1x512 .f32 := k0_pay220 (G117 h) (G122 h) (G123 h) (G131 h) (G139 h) (G140 h) (G141 h)
def G144 (h : Half F) : FVec F S1x512 .f32 := k0_pay221 (G118 h) (G122 h) (G123 h) (G131 h) (G139 h) (G140 h) (G141 h)
def G145 (h : Half F) : FVec F S1x512 .f32 := k0_pay222 (G117 h) (G119 h) (G120 h) (G121 h) (G122 h) (G123 h) (G131 h) (G139 h) (G140 h) (G141 h)
def G146 (h : Half F) : FVec F S1x512 .f32 := k0_pay223 (G115 h) (G119 h) (G120 h) (G121 h) (G122 h) (G123 h) (G131 h) (G139 h) (G140 h) (G141 h)
def G147 (h : Half F) : FVec F S1x512 .f32 := k0_pay224 (G115 h) (G117 h) (G119 h) (G122 h) (G123 h) (G131 h) (G139 h) (G140 h) (G141 h)
def G148 (h : Half F) : FVec F S1x512 .f32 := k0_pay239 (G119 h) (G120 h) (G121 h) (G142 h) (G143 h) (G144 h) (G145 h) (G146 h) (G147 h)
def G149 (u : Half F) (h : Half F) : FVec F S1x512 .f32 := k0_pay240 (P71 u) (G119 h) (G120 h) (G121 h) (G142 h) (G143 h) (G144 h) (G145 h) (G146 h) (G147 h)
def G150 (u : Half F) (h : Half F) : FVec F S1x512 .f32 := k0_pay241 (P72 u) (G119 h) (G120 h) (G121 h) (G142 h) (G143 h) (G144 h) (G145 h) (G146 h) (G147 h)

/-- The running sum after the point. -/
def stepAcc (u h : Half F) (acc : F .f32) : F .f32 := k0_pay1 (P73 u) (G148 h) (G149 u h) (G150 u h) acc

end Cert.Nearest

end
-- ==== Proof.KPick.lean ====
/- The selection of one half of a grid point as a few vector operations: sixteen chunks of distances, the two smallest of
   each column of chunks, the tenth smallest distinct value of those, the mask of the distances at or below it, and the
   sums of the features under the mask. Both halves compute these. -/
module

public import proofs.«01_k».proof.Proof.KStep

@[expose] public section

set_option maxRecDepth 16384

noncomputable section

namespace Cert.Nearest

open Idealize.ShloMosaic Cert.KernelIdeal Cert.KernelIdeal.Gen

variable {F : FTy → Type} [FloatOps F] [Named F]

/-- The sixteen chunks of the half distances: half squared norms less inner products. -/
def chunks (h : Half F) : Fin 16 → FVec F S512x128 .f32 :=
  ![subf (broadcastTo S512x128 h.q0 broadcasts_S1x128_S512x128) (extractStridedSlice S512x128 ![0, 0] (P0 h) slices_S512x2048_o0_0_S512x128),
    subf (broadcastTo S512x128 h.q1 broadcasts_S1x128_S512x128) (extractStridedSlice S512x128 ![0, 128] (P0 h) slices_S512x2048_o0_128_S512x128),
    subf (broadcastTo S512x128 h.q2 broadcasts_S1x128_S512x128) (extractStridedSlice S512x128 ![0, 256] (P0 h) slices_S512x2048_o0_256_S512x128),
    subf (broadcastTo S512x128 h.q3 broadcasts_S1x128_S512x128) (extractStridedSlice S512x128 ![0, 384] (P0 h) slices_S512x2048_o0_384_S512x128),
    subf (broadcastTo S512x128 h.q4 broadcasts_S1x128_S512x128) (extractStridedSlice S512x128 ![0, 512] (P0 h) slices_S512x2048_o0_512_S512x128),
    subf (broadcastTo S512x128 h.q5 broadcasts_S1x128_S512x128) (extractStridedSlice S512x128 ![0, 640] (P0 h) slices_S512x2048_o0_640_S512x128),
    subf (broadcastTo S512x128 h.q6 broadcasts_S1x128_S512x128) (extractStridedSlice S512x128 ![0, 768] (P0 h) slices_S512x2048_o0_768_S512x128),
    subf (broadcastTo S512x128 h.q7 broadcasts_S1x128_S512x128) (extractStridedSlice S512x128 ![0, 896] (P0 h) slices_S512x2048_o0_896_S512x128),
    subf (broadcastTo S512x128 h.q8 broadcasts_S1x128_S512x128) (extractStridedSlice S512x128 ![0, 1024] (P0 h) slices_S512x2048_o0_1024_S512x128),
    subf (broadcastTo S512x128 h.q9 broadcasts_S1x128_S512x128) (extractStridedSlice S512x128 ![0, 1152] (P0 h) slices_S512x2048_o0_1152_S512x128),
    subf (broadcastTo S512x128 h.q10 broadcasts_S1x128_S512x128) (extractStridedSlice S512x128 ![0, 1280] (P0 h) slices_S512x2048_o0_1280_S512x128),
    subf (broadcastTo S512x128 h.q11 broadcasts_S1x128_S512x128) (extractStridedSlice S512x128 ![0, 1408] (P0 h) slices_S512x2048_o0_1408_S512x128),
    subf (broadcastTo S512x128 h.q12 broadcasts_S1x128_S512x128) (extractStridedSlice S512x128 ![0, 1536] (P0 h) slices_S512x2048_o0_1536_S512x128),
    subf (broadcastTo S512x128 h.q13 broadcasts_S1x128_S512x128) (extractStridedSlice S512x128 ![0, 1664] (P0 h) slices_S512x2048_o0_1664_S512x128),
    subf (broadcastTo S512x128 h.q14 broadcasts_S1x128_S512x128) (extractStridedSlice S512x128 ![0, 1792] (P0 h) slices_S512x2048_o0_1792_S512x128),
    subf (broadcastTo S512x128 h.q15 broadcasts_S1x128_S512x128) (extractStridedSlice S512x128 ![0, 1920] (P0 h) slices_S512x2048_o0_1920_S512x128)]

/-- The smaller and the larger of two chunks. -/
def coupleV (x y : FVec F S512x128 .f32) : FVec F S512x128 .f32 × FVec F S512x128 .f32 := (minimumf x y, maximumf x y)

/-- The two smallest out of two pairs of two smallest. -/
def joinV (p q : FVec F S512x128 .f32 × FVec F S512x128 .f32) : FVec F S512x128 .f32 × FVec F S512x128 .f32 :=
  (minimumf p.1 q.1, minimumf (maximumf p.1 q.1) (minimumf p.2 q.2))

/-- The two smallest of sixteen chunks, lane by lane. -/
def tourneyV (c : Fin 16 → FVec F S512x128 .f32) : FVec F S512x128 .f32 × FVec F S512x128 .f32 :=
  joinV (joinV (joinV (coupleV (c 0) (c 1)) (coupleV (c 2) (c 3))) (joinV (coupleV (c 4) (c 5)) (coupleV (c 6) (c 7))))
    (joinV (joinV (coupleV (c 8) (c 9)) (coupleV (c 10) (c 11))) (joinV (coupleV (c 12) (c 13)) (coupleV (c 14) (c 15))))

/-- The smallest beside the second smallest. -/
def bothV (c : Fin 16 → FVec F S512x128 .f32) : FVec F S512x256 .f32 :=
  concatenate S512x256 1 [⟨S512x128, (tourneyV c).1⟩, ⟨S512x128, (tourneyV c).2⟩] concatenates_S512x128_S512x128_S512x256_d1

/-- The smallest of each row. -/
def leastV (w : FVec F S512x256 .f32) : FVec F S512x1 .f32 :=
  shapeCast S512x1 (multiReduction .minimumf [1] S512 w 0x7F800000#32 reduces_S512x256_S512 (.inl rfl) rfl) shapeCasts_S512_S512x1

/-- The smallest of each row, then the next larger ones. -/
def thrV (w : FVec F S512x256 .f32) : ℕ → FVec F S512x1 .f32
  | 0 => leastV w
  | n + 1 => leastV (select (cmpf .ogt w (broadcastTo S512x256 (thrV w n) broadcasts_S512x1_S512x256)) w
      (broadcast S512x256 (Scalar.ofBits .f32 0x7F800000#32)))

/-- Whether a half distance is at or below its row's threshold. -/
def nearV (x : FVec F S512x128 .f32) (t : FVec F S512x1 .f32) : IVec S512x128 1 :=
  cmpf .ole x (broadcastTo S512x128 t broadcasts_S512x1_S512x128)

/-- The mask of a whole row. -/
def maskV (c : Fin 16 → FVec F S512x128 .f32) (t : FVec F S512x1 .f32) : IVec S512x2048 1 :=
  concatenate S512x2048 1 [⟨S512x128, nearV (c 0) t⟩, ⟨S512x128, nearV (c 1) t⟩, ⟨S512x128, nearV (c 2) t⟩, ⟨S512x128, nearV (c 3) t⟩, ⟨S512x128, nearV (c 4) t⟩, ⟨S512x128, nearV (c 5) t⟩, ⟨S512x128, nearV (c 6) t⟩, ⟨S512x128, nearV (c 7) t⟩, ⟨S512x128, nearV (c 8) t⟩, ⟨S512x128, nearV (c 9) t⟩, ⟨S512x128, nearV (c 10) t⟩, ⟨S512x128, nearV (c 11) t⟩, ⟨S512x128, nearV (c 12) t⟩, ⟨S512x128, nearV (c 13) t⟩, ⟨S512x128, nearV (c 14) t⟩, ⟨S512x128, nearV (c 15) t⟩]
    concatenates_S512x128_S512x128_S512x128_S512x128_S512x128_S512x128_S512x128_S512x128_S512x128_S512x128_S512x128_S512x128_S512x128_S512x128_S512x128_S512x128_S512x2048_d1

/-- The features summed under the mask, one row per feature. -/
def sumV (m : IVec S512x2048 1) (fhi flo : FVec F S2048x16 .bf16) : FVec F S16x512 .f32 :=
  transpose S16x512 [1, 0] (addf
    (matmul dot_S512x2048_S2048x16_S512x16_1_0_0_1_n_n none (truncf .bf16 (sitofp .f32 (extui 32 m natLt_1_32)) bitsLt_bf16_f32)
      fhi (constant S512x16 .f32 0x00000000#32))
    (matmul dot_S512x2048_S2048x16_S512x16_1_0_0_1_n_n none (truncf .bf16 (sitofp .f32 (extui 32 m natLt_1_32)) bitsLt_bf16_f32)
      flo (constant S512x16 .f32 0x00000000#32))) transposes_S512x16_p1_0_S16x512

/-- The summed features of a half. -/
def picked (h : Half F) : FVec F S16x512 .f32 :=
  sumV (maskV (chunks h) (thrV (bothV (chunks h)) 9)) h.fhi h.flo

/-- The summed features of the first half. -/
def sumP (h : Half F) : FVec F S16x512 .f32 :=
  k0_pay65 (P19 h) (P22 h) (P23 h) (P24 h) (P25 h) (P26 h) (P27 h) (P28 h) (P29 h) (P30 h) (P31 h) (P32 h) (P33 h) (P34 h) (P35 h)
    (P36 h) (P37 h) (P38 h) h.fhi h.flo

/-- The first half's smallest pairs. -/
theorem P17_eq (h : Half F) : P17 h = bothV (chunks h) := by sl_kernel_rfl
/-- The first half's thresholds. -/
theorem P19_eq (h : Half F) : P19 h = thrV (P17 h) 9 := by sl_kernel_rfl
/-- The first half's sums under its mask. -/
theorem sumP_mask (h : Half F) : sumP h = sumV (maskV (chunks h) (P19 h)) h.fhi h.flo := by sl_kernel_rfl
/-- The first half's sums. -/
theorem sumP_eq (h : Half F) : sumP h = picked h := by rw [sumP_mask, P19_eq, P17_eq]; rfl
/-- The second half's sums. -/
theorem G110_eq (h : Half F) : G110 h = picked h := by sl_kernel_rfl

end Cert.Nearest
-- ==== Proof.KEig.lean ====
/- The normal of one point as scalar operations on the six entries of its covariance matrix, in the kernel's order of
   operations, and the vectors of both halves of a grid point read at a lane through it. -/
module

public import proofs.«01_k».proof.Proof.KPick
public import Idealize.ShloMosaic.Lib.Pointwise

@[expose] public section

set_option maxRecDepth 16384

noncomputable section

namespace Cert.Nearest

open Idealize.ShloMosaic Cert.KernelIdeal Cert.KernelIdeal.Gen

variable {F : FTy → Type} [FloatOps F] [Named F]

/-- The two, three, one, a half, minus one, minus two of the kernel and the guards of the square roots and of Newton's quotient. -/
def c2 : F .f32 := Scalar.ofBits .f32 0x40000000#32
@[inherit_doc c2] def c3 : F .f32 := Scalar.ofBits .f32 0x40400000#32
@[inherit_doc c2] def c1 : F .f32 := Scalar.ofBits .f32 0x3F800000#32
@[inherit_doc c2] def chalf : F .f32 := Scalar.ofBits .f32 0x3F000000#32
@[inherit_doc c2] def cm1 : F .f32 := Scalar.ofBits .f32 0xBF800000#32
@[inherit_doc c2] def cm2 : F .f32 := Scalar.ofBits .f32 0xC0000000#32
@[inherit_doc c2] def ctiny : F .f32 := Scalar.ofBits .f32 0x006CE3EE#32
@[inherit_doc c2] def csmall : F .f32 := Scalar.ofBits .f32 0x2EDBE6FF#32

/-- The six entries of a symmetric matrix: the diagonal `a b c`, then `d` at (0,1), `e` at (0,2), `f` at (1,2). -/
structure Sym (F : FTy → Type) where
  a : F .f32
  b : F .f32
  c : F .f32
  d : F .f32
  e : F .f32
  f : F .f32

/-- The covariance matrix out of the sixteen summed features: sums times one over the count, less the products of means. -/
def covOf (s : Fin 16 → F .f32) : Sym F :=
  let v := FloatOps.divf c1 (s 9)
  let x := FloatOps.mulf (s 0) v
  let y := FloatOps.mulf (s 1) v
  let z := FloatOps.mulf (s 2) v
  ⟨FloatOps.subf (FloatOps.mulf (s 3) v) (FloatOps.mulf x x), FloatOps.subf (FloatOps.mulf (s 4) v) (FloatOps.mulf y y),
   FloatOps.subf (FloatOps.mulf (s 5) v) (FloatOps.mulf z z), FloatOps.subf (FloatOps.mulf (s 6) v) (FloatOps.mulf x y),
   FloatOps.subf (FloatOps.mulf (s 7) v) (FloatOps.mulf x z), FloatOps.subf (FloatOps.mulf (s 8) v) (FloatOps.mulf y z)⟩

/-- A third of the trace. -/
def qS (m : Sym F) : F .f32 :=
  FloatOps.mulf (FloatOps.addf (FloatOps.addf m.a m.b) m.c) (Named.named κ "third" 0x3EAAAAAB#32)

/-- The size of the matrix less its third of the trace. -/
def pS (m : Sym F) : F .f32 :=
  let x := FloatOps.subf m.a (qS m)
  let y := FloatOps.subf m.b (qS m)
  let z := FloatOps.subf m.c (qS m)
  FloatOps.sqrt (FloatOps.addf (FloatOps.mulf (FloatOps.addf (FloatOps.addf (FloatOps.addf (FloatOps.mulf x x) (FloatOps.mulf y y))
    (FloatOps.mulf z z)) (FloatOps.mulf c2 (FloatOps.addf (FloatOps.addf (FloatOps.mulf m.d m.d) (FloatOps.mulf m.e m.e))
    (FloatOps.mulf m.f m.f)))) (Named.named κ "sixth" 0x3E2AAAAB#32)) ctiny)

/-- The determinant of a symmetric matrix. -/
def detS (m : Sym F) : F .f32 :=
  FloatOps.addf (FloatOps.subf
      (FloatOps.mulf m.a (FloatOps.subf (FloatOps.mulf m.b m.c) (FloatOps.mulf m.f m.f)))
      (FloatOps.mulf m.d (FloatOps.subf (FloatOps.mulf m.d m.c) (FloatOps.mulf m.f m.e))))
    (FloatOps.mulf m.e (FloatOps.subf (FloatOps.mulf m.d m.f) (FloatOps.mulf m.b m.e)))

/-- Half the determinant of the centred matrix over its size, kept between minus one and one. -/
def rS (m : Sym F) : F .f32 :=
  let v := FloatOps.divf c1 (pS m)
  FloatOps.minimumf c1 (FloatOps.maximumf cm1 (FloatOps.mulf (detS
    ⟨FloatOps.mulf (FloatOps.subf m.a (qS m)) v, FloatOps.mulf (FloatOps.subf m.b (qS m)) v, FloatOps.mulf (FloatOps.subf m.c (qS m)) v,
     FloatOps.mulf m.d v, FloatOps.mulf m.e v, FloatOps.mulf m.f v⟩) chalf))

/-- One step of Newton's method for `x³ − 3x − 2r = 0`. -/
def nwt (r x : F .f32) : F .f32 :=
  FloatOps.subf x (FloatOps.divf
    (FloatOps.subf (FloatOps.subf (FloatOps.mulf (FloatOps.mulf x x) x) (FloatOps.mulf c3 x)) (FloatOps.mulf c2 r))
    (FloatOps.addf (FloatOps.subf (FloatOps.mulf (FloatOps.mulf c3 x) x) c3) csmall))

/-- The value after `k` steps from minus two. -/
def root (r : F .f32) : ℕ → F .f32
  | 0 => cm2
  | k + 1 => nwt r (root r k)

/-- The smallest eigenvalue: twelve steps. -/
def lS (m : Sym F) : F .f32 := FloatOps.addf (qS m) (FloatOps.mulf (pS m) (root (rS m) 12))

/-- The matrix less its smallest eigenvalue on the diagonal. -/
def shiftS (m : Sym F) : Sym F :=
  ⟨FloatOps.subf m.a (lS m), FloatOps.subf m.b (lS m), FloatOps.subf m.c (lS m), m.d, m.e, m.f⟩

/-- The cross products of the rows of a symmetric matrix: first with second, first with third, second with third. -/
def crossS (m : Sym F) : Fin 3 → Fin 3 → F .f32
  | 0 => ![FloatOps.subf (FloatOps.mulf m.d m.f) (FloatOps.mulf m.e m.b), FloatOps.subf (FloatOps.mulf m.e m.d) (FloatOps.mulf m.a m.f),
           FloatOps.subf (FloatOps.mulf m.a m.b) (FloatOps.mulf m.d m.d)]
  | 1 => ![FloatOps.subf (FloatOps.mulf m.d m.c) (FloatOps.mulf m.e m.f), FloatOps.subf (FloatOps.mulf m.e m.e) (FloatOps.mulf m.a m.c),
           FloatOps.subf (FloatOps.mulf m.a m.f) (FloatOps.mulf m.d m.e)]
  | 2 => ![FloatOps.subf (FloatOps.mulf m.b m.c) (FloatOps.mulf m.f m.f), FloatOps.subf (FloatOps.mulf m.f m.e) (FloatOps.mulf m.d m.c),
           FloatOps.subf (FloatOps.mulf m.d m.f) (FloatOps.mulf m.b m.e)]

/-- The squared length of a vector. -/
def sqS (v : Fin 3 → F .f32) : F .f32 :=
  FloatOps.addf (FloatOps.addf (FloatOps.mulf (v 0) (v 0)) (FloatOps.mulf (v 1) (v 1))) (FloatOps.mulf (v 2) (v 2))

/-- The longest of three vectors, the earlier one of two equally long. -/
def longest (u v w : Fin 3 → F .f32) (k : Fin 3) : F .f32 :=
  let p := IntOp.andi (FloatOps.cmpf .oge (sqS u) (sqS v)) (FloatOps.cmpf .oge (sqS u) (sqS w))
  Scalar.select p (u k)
    (Scalar.select (IntOp.andi (IntOp.xori p 1#1) (FloatOps.cmpf .oge (sqS v) (sqS w))) (v k) (w k))

/-- A vector over its length. -/
def unit (v : Fin 3 → F .f32) (k : Fin 3) : F .f32 :=
  FloatOps.mulf (v k) (FloatOps.rsqrt (FloatOps.addf (sqS v) ctiny))

/-- The normal: the longest cross product of rows of the shifted matrix, over its length. -/
def normalS (m : Sym F) : Fin 3 → F .f32 :=
  unit (longest (crossS (shiftS m) 0) (crossS (shiftS m) 1) (crossS (shiftS m) 2))

/-- The summed features of a half of `pred`, and the covariance at a lane. -/
def covP (h : Half F) (j : S1x512.Idx) : Sym F := ⟨P39 h j, P40 h j, P41 h j, P42 h j, P43 h j, P44 h j⟩

/-- The first half's normal at a lane, first coordinate. -/
theorem P71_at (h : Half F) (j : S1x512.Idx) : P71 h j = normalS (covP h j) 0 := by sl_kernel_rfl
/-- The first half's normal at a lane, second coordinate. -/
theorem P72_at (h : Half F) (j : S1x512.Idx) : P72 h j = normalS (covP h j) 1 := by sl_kernel_rfl
/-- The first half's normal at a lane, third coordinate. -/
theorem P73_at (h : Half F) (j : S1x512.Idx) : P73 h j = normalS (covP h j) 2 := by sl_kernel_rfl

/-- The first ten rows of a sixteen row array at a lane. -/
def rowsOf (x : FVec F S16x512 .f32) (j : S1x512.Idx) : Fin 16 → F .f32 :=
  ![extractStridedSlice S1x512 ![0, 0] x slices_S16x512_o0_0_S1x512 j,
    extractStridedSlice S1x512 ![1, 0] x slices_S16x512_o1_0_S1x512 j,
    extractStridedSlice S1x512 ![2, 0] x slices_S16x512_o2_0_S1x512 j,
    extractStridedSlice S1x512 ![3, 0] x slices_S16x512_o3_0_S1x512 j,
    extractStridedSlice S1x512 ![4, 0] x slices_S16x512_o4_0_S1x512 j,
    extractStridedSlice S1x512 ![5, 0] x slices_S16x512_o5_0_S1x512 j,
    extractStridedSlice S1x512 ![6, 0] x slices_S16x512_o6_0_S1x512 j,
    extractStridedSlice S1x512 ![7, 0] x slices_S16x512_o7_0_S1x512 j,
    extractStridedSlice S1x512 ![8, 0] x slices_S16x512_o8_0_S1x512 j,
    extractStridedSlice S1x512 ![9, 0] x slices_S16x512_o9_0_S1x512 j,
    c1, c1, c1, c1, c1, c1]

/-- The covariance at a lane out of the rows there. -/
theorem covP_rows (h : Half F) (j : S1x512.Idx) : covP h j = covOf (rowsOf (sumP h) j) := by sl_kernel_rfl

/-- The second half's covariance at a lane. -/
def covG (h : Half F) (j : S1x512.Idx) : Sym F := covOf (rowsOf (G110 h) j)

/-- The second half's third coordinate of the normal. -/
theorem G148_at (h : Half F) (j : S1x512.Idx) : G148 h j = normalS (covG h j) 2 := by sl_kernel_rfl
/-- The product of the two halves' first coordinates. -/
theorem G149_at (u h : Half F) (j : S1x512.Idx) :
    G149 u h j = FloatOps.mulf (P71 u j) (normalS (covG h j) 0) := by sl_kernel_rfl
/-- The product of the two halves' second coordinates. -/
theorem G150_at (u h : Half F) (j : S1x512.Idx) :
    G150 u h j = FloatOps.mulf (P72 u j) (normalS (covG h j) 1) := by sl_kernel_rfl

/-- A row of ten at lane `n` is the array at that row and `n`. -/
theorem rowsOf_at (x : FVec F S16x512 .f32) (n : Fin 512) (k : Fin 16) (hk : k.val < 10) :
    rowsOf x (ix2 0 n) k = x (ix2 k n) := by
  obtain ⟨k, hk'⟩ := k
  have hk : k < 10 := hk
  interval_cases k <;> simp only [rowsOf, Matrix.cons_val_zero', Fin.mk_one, Fin.zero_eta, Fin.reduceFinMk, Matrix.cons_val] <;> pointwise

/-- The covariance reads the first ten sums only. -/
theorem covOf_congr (s t : Fin 16 → F .f32) (h : ∀ k : Fin 16, k.val < 10 → s k = t k) : covOf s = covOf t := by
  simp only [covOf]
  rw [h 0 (by decide), h 1 (by decide), h 2 (by decide), h 3 (by decide), h 4 (by decide), h 5 (by decide), h 6 (by decide),
    h 7 (by decide), h 8 (by decide), h 9 (by decide)]

/-- The first half's covariance at lane `n` out of the summed features. -/
theorem covP_at (h : Half F) (n : Fin 512) : covP h (ix2 0 n) = covOf fun k => sumP h (ix2 k n) :=
  (covP_rows h _).trans (covOf_congr _ _ fun k hk => rowsOf_at _ n k hk)

/-- The second half's covariance at lane `n` out of the summed features. -/
theorem covG_at (h : Half F) (n : Fin 512) : covG h (ix2 0 n) = covOf fun k => G110 h (ix2 k n) :=
  covOf_congr _ _ fun k hk => rowsOf_at _ n k hk

end Cert.Nearest
-- ==== Proof.RefEig.lean ====
/- The reference's chain from the covariance matrices to the normals, read at a point over the extended reals. -/
module

public import proofs.«01_k».proof.Proof.KEig
public import proofs.«01_k».proof.Proof.Gen.ReferenceIdeal.Run
public import Idealize.ShloMosaic.Lib.Pointwise

@[expose] public section

set_option maxRecDepth 16384

noncomputable section

namespace Cert.Nearest

open Idealize.ShloMosaic Cert.ReferenceIdeal Cert.ReferenceIdeal.Gen Cert.ReferenceIdeal.Value

/-- The literals two, three, six. -/
theorem ofBits_two : Ideal.ofBits .f32 0x40000000#32 = ((2 : ℝ) : EReal) := by
  simp [Ideal.ofBits, Ideal.ieee, -EReal.coe_mul]; norm_num
@[inherit_doc ofBits_two] theorem ofBits_three : Ideal.ofBits .f32 0x40400000#32 = ((3 : ℝ) : EReal) := by
  simp [Ideal.ofBits, Ideal.ieee, -EReal.coe_mul]; norm_num
@[inherit_doc ofBits_two] theorem ofBits_six : Ideal.ofBits .f32 0x40C00000#32 = ((6 : ℝ) : EReal) := by
  simp [Ideal.ofBits, Ideal.ieee, -EReal.coe_mul]; norm_num
/-- The literal one half. -/
theorem ofBits_half' : Ideal.ofBits .f32 0x3F000000#32 = ((1 / 2 : ℝ) : EReal) := by
  simp [Ideal.ofBits, Ideal.ieee, -EReal.coe_mul]; norm_num

/-- The named third. -/
theorem third_eq : (Named.named Cert.KernelIdeal.κ "third" (φ := .f32) 0x3EAAAAAB#32 : Ideal .f32) = ((1 / 3 : ℝ) : EReal) := rfl
/-- The named sixth. -/
theorem sixth_eq : (Named.named Cert.KernelIdeal.κ "sixth" (φ := .f32) 0x3E2AAAAB#32 : Ideal .f32) = ((1 / 6 : ℝ) : EReal) := rfl

variable (V0 : Valuation τ sig (Elt Ideal))

/-- The covariance matrices, one per cloud and point. -/
def C (j : S2x4x2048.Idx) (x y : Fin 3) : EReal := res_main_v62 (F := Ideal) V0 (ix5 (j 0) (j 1) (j 2) x y)

/-- The six entries above the diagonal and on it. -/
def M (j : S2x4x2048.Idx) : Sym Ideal := ⟨C V0 j 0 0, C V0 j 1 1, C V0 j 2 2, C V0 j 0 1, C V0 j 0 2, C V0 j 1 2⟩

/-- The entry (0,0). -/
theorem v64_at (j : S2x4x2048.Idx) : res_main_v64 (F := Ideal) V0 j = (M V0 j).a := by
  unfold res_main_v64 M C
  generalize res_main_v62 V0 = x
  idx_vars j
  pointwise

/-- The entry (1,1). -/
theorem v66_at (j : S2x4x2048.Idx) : res_main_v66 (F := Ideal) V0 j = (M V0 j).b := by
  unfold res_main_v66 M C
  generalize res_main_v62 V0 = x
  idx_vars j
  pointwise

/-- The entry (2,2). -/
theorem v68_at (j : S2x4x2048.Idx) : res_main_v68 (F := Ideal) V0 j = (M V0 j).c := by
  unfold res_main_v68 M C
  generalize res_main_v62 V0 = x
  idx_vars j
  pointwise

/-- The entry (0,1). -/
theorem v70_at (j : S2x4x2048.Idx) : res_main_v70 (F := Ideal) V0 j = (M V0 j).d := by
  unfold res_main_v70 M C
  generalize res_main_v62 V0 = x
  idx_vars j
  pointwise

/-- The entry (0,2). -/
theorem v72_at (j : S2x4x2048.Idx) : res_main_v72 (F := Ideal) V0 j = (M V0 j).e := by
  unfold res_main_v72 M C
  generalize res_main_v62 V0 = x
  idx_vars j
  pointwise

/-- The entry (1,2). -/
theorem v74_at (j : S2x4x2048.Idx) : res_main_v74 (F := Ideal) V0 j = (M V0 j).f := by
  unfold res_main_v74 M C
  generalize res_main_v62 V0 = x
  idx_vars j
  pointwise

/-- A sum of three over three. -/
def thirdOf (a b c : EReal) : EReal := Ideal.div (a + b + c) (Ideal.ofBits .f32 0x40400000#32)

/-- The size of a symmetric matrix, its sum of squares over six. -/
def sizeOf' (x y z d e f : EReal) : EReal :=
  FloatOps.sqrt (F := Ideal) (φ := .f32) ((Ideal.div (x * x + y * y + z * z + Ideal.ofBits .f32 0x40000000#32 * (d * d + e * e + f * f))
    (Ideal.ofBits .f32 0x40C00000#32) + Ideal.ofBits .f32 0x006CE3EE#32 : EReal))

/-- The third of the trace. -/
theorem v78_at (j : S2x4x2048.Idx) : res_main_v78 (F := Ideal) V0 j = qS (M V0 j) := by
  show thirdOf (res_main_v64 (F := Ideal) V0 j) (res_main_v66 (F := Ideal) V0 j) (res_main_v68 (F := Ideal) V0 j) = _
  rw [v64_at, v66_at, v68_at]
  unfold thirdOf
  rw [ofBits_three, Ideal.div_coe (by norm_num)]
  rfl

/-- The first diagonal entry less the third of the trace. -/
theorem v79_at (j : S2x4x2048.Idx) : res_main_v79 (F := Ideal) V0 j = FloatOps.subf (F := Ideal) (φ := .f32) (M V0 j).a (qS (M V0 j)) :=
  congrArg₂ (FloatOps.subf (F := Ideal) (φ := .f32)) (v64_at V0 j) (v78_at V0 j)
/-- The second diagonal entry less the third of the trace. -/
theorem v80_at (j : S2x4x2048.Idx) : res_main_v80 (F := Ideal) V0 j = FloatOps.subf (F := Ideal) (φ := .f32) (M V0 j).b (qS (M V0 j)) :=
  congrArg₂ (FloatOps.subf (F := Ideal) (φ := .f32)) (v66_at V0 j) (v78_at V0 j)
/-- The third diagonal entry less the third of the trace. -/
theorem v81_at (j : S2x4x2048.Idx) : res_main_v81 (F := Ideal) V0 j = FloatOps.subf (F := Ideal) (φ := .f32) (M V0 j).c (qS (M V0 j)) :=
  congrArg₂ (FloatOps.subf (F := Ideal) (φ := .f32)) (v68_at V0 j) (v78_at V0 j)

/-- The size of the centred matrix. -/
theorem v99_at (j : S2x4x2048.Idx) : res_main_v99 (F := Ideal) V0 j = pS (M V0 j) := by
  show sizeOf' (res_main_v79 (F := Ideal) V0 j) (res_main_v80 (F := Ideal) V0 j) (res_main_v81 (F := Ideal) V0 j)
    (res_main_v70 (F := Ideal) V0 j) (res_main_v72 (F := Ideal) V0 j) (res_main_v74 (F := Ideal) V0 j) = _
  rw [v79_at, v80_at, v81_at, v70_at, v72_at, v74_at]
  unfold sizeOf'
  rw [ofBits_six, Ideal.div_coe (by norm_num)]
  rfl

/-- Half the determinant between minus one and one, where the size is a real number other than zero. -/
theorem v122_at (j : S2x4x2048.Idx) (p : ℝ) (hp0 : p ≠ 0) (hp : pS (M V0 j) = ((p : ℝ) : EReal)) :
    res_main_v122 (F := Ideal) V0 j = rS (M V0 j) := by
  have hv : FloatOps.divf (F := Ideal) (φ := .f32) c1 (pS (M V0 j)) = ((1 / p : ℝ) : EReal) := by
    show Ideal.div (c1 : Ideal .f32) _ = _
    rw [hp, Ideal.div_coe hp0, show (c1 : Ideal .f32) = (1 : EReal) from Ideal.ofBits_one_f32, one_mul]
  have e : ∀ x : EReal, Ideal.div x (res_main_v99 (F := Ideal) V0 j) = x * ((1 / p : ℝ) : EReal) := fun x => by
    rw [v99_at, hp, Ideal.div_coe hp0]
  have e101 : res_main_v101 (F := Ideal) V0 j = FloatOps.mulf (F := Ideal) (φ := .f32) (FloatOps.subf (F := Ideal) (φ := .f32) (M V0 j).b (qS (M V0 j))) ((1 / p : ℝ) : EReal) :=
    (e _).trans (congrArg (· * ((1 / p : ℝ) : EReal)) (v80_at V0 j))
  have e102 : res_main_v102 (F := Ideal) V0 j = FloatOps.mulf (F := Ideal) (φ := .f32) (FloatOps.subf (F := Ideal) (φ := .f32) (M V0 j).c (qS (M V0 j))) ((1 / p : ℝ) : EReal) :=
    (e _).trans (congrArg (· * ((1 / p : ℝ) : EReal)) (v81_at V0 j))
  have e103 : res_main_v103 (F := Ideal) V0 j = FloatOps.mulf (F := Ideal) (φ := .f32) (M V0 j).d ((1 / p : ℝ) : EReal) :=
    (e _).trans (congrArg (· * ((1 / p : ℝ) : EReal)) (v70_at V0 j))
  have e104 : res_main_v104 (F := Ideal) V0 j = FloatOps.mulf (F := Ideal) (φ := .f32) (M V0 j).e ((1 / p : ℝ) : EReal) :=
    (e _).trans (congrArg (· * ((1 / p : ℝ) : EReal)) (v72_at V0 j))
  have e105 : res_main_v105 (F := Ideal) V0 j = FloatOps.mulf (F := Ideal) (φ := .f32) (M V0 j).f ((1 / p : ℝ) : EReal) :=
    (e _).trans (congrArg (· * ((1 / p : ℝ) : EReal)) (v74_at V0 j))
  have e100 : Ideal.div (res_main_v79 (F := Ideal) V0 j) (res_main_v99 (F := Ideal) V0 j)
      = FloatOps.mulf (F := Ideal) (φ := .f32) (FloatOps.subf (F := Ideal) (φ := .f32) (M V0 j).a (qS (M V0 j))) ((1 / p : ℝ) : EReal) :=
    (e _).trans (congrArg (· * ((1 / p : ℝ) : EReal)) (v79_at V0 j))
  show FloatOps.minimumf (F := Ideal) (φ := .f32) c1 (FloatOps.maximumf (F := Ideal) (φ := .f32) cm1
    (Ideal.div (detS (F := Ideal) ⟨Ideal.div (res_main_v79 (F := Ideal) V0 j) (res_main_v99 (F := Ideal) V0 j), res_main_v101 (F := Ideal) V0 j,
      res_main_v102 (F := Ideal) V0 j, res_main_v103 (F := Ideal) V0 j, res_main_v104 (F := Ideal) V0 j, res_main_v105 (F := Ideal) V0 j⟩)
      (Ideal.ofBits .f32 0x40000000#32))) = _
  rw [e100, e101, e102, e103, e104, e105, ofBits_two, Ideal.div_coe (by norm_num)]
  unfold rS
  rw [hv, show (chalf : Ideal .f32) = ((1 / 2 : ℝ) : EReal) from ofBits_half']
  rfl

/-- Newton's value after 0 steps. -/
theorem v123_at (j : S2x4x2048.Idx) : res_main_v123 (F := Ideal) V0 j = root (F := Ideal) (res_main_v122 (F := Ideal) V0 j) 0 := rfl

/-- Newton's value after 1 steps. -/
theorem v140_at (j : S2x4x2048.Idx) : res_main_v140 (F := Ideal) V0 j = root (F := Ideal) (res_main_v122 (F := Ideal) V0 j) 1 := congrArg (nwt (F := Ideal) (res_main_v122 (F := Ideal) V0 j)) (v123_at V0 j)

/-- Newton's value after 2 steps. -/
theorem v157_at (j : S2x4x2048.Idx) : res_main_v157 (F := Ideal) V0 j = root (F := Ideal) (res_main_v122 (F := Ideal) V0 j) 2 := congrArg (nwt (F := Ideal) (res_main_v122 (F := Ideal) V0 j)) (v140_at V0 j)

/-- Newton's value after 3 steps. -/
theorem v174_at (j : S2x4x2048.Idx) : res_main_v174 (F := Ideal) V0 j = root (F := Ideal) (res_main_v122 (F := Ideal) V0 j) 3 := congrArg (nwt (F := Ideal) (res_main_v122 (F := Ideal) V0 j)) (v157_at V0 j)

/-- Newton's value after 4 steps. -/
theorem v191_at (j : S2x4x2048.Idx) : res_main_v191 (F := Ideal) V0 j = root (F := Ideal) (res_main_v122 (F := Ideal) V0 j) 4 := congrArg (nwt (F := Ideal) (res_main_v122 (F := Ideal) V0 j)) (v174_at V0 j)

/-- Newton's value after 5 steps. -/
theorem v208_at (j : S2x4x2048.Idx) : res_main_v208 (F := Ideal) V0 j = root (F := Ideal) (res_main_v122 (F := Ideal) V0 j) 5 := congrArg (nwt (F := Ideal) (res_main_v122 (F := Ideal) V0 j)) (v191_at V0 j)

/-- Newton's value after 6 steps. -/
theorem v225_at (j : S2x4x2048.Idx) : res_main_v225 (F := Ideal) V0 j = root (F := Ideal) (res_main_v122 (F := Ideal) V0 j) 6 := congrArg (nwt (F := Ideal) (res_main_v122 (F := Ideal) V0 j)) (v208_at V0 j)

/-- Newton's value after 7 steps. -/
theorem v242_at (j : S2x4x2048.Idx) : res_main_v242 (F := Ideal) V0 j = root (F := Ideal) (res_main_v122 (F := Ideal) V0 j) 7 := congrArg (nwt (F := Ideal) (res_main_v122 (F := Ideal) V0 j)) (v225_at V0 j)

/-- Newton's value after 8 steps. -/
theorem v259_at (j : S2x4x2048.Idx) : res_main_v259 (F := Ideal) V0 j = root (F := Ideal) (res_main_v122 (F := Ideal) V0 j) 8 := congrArg (nwt (F := Ideal) (res_main_v122 (F := Ideal) V0 j)) (v242_at V0 j)

/-- Newton's value after 9 steps. -/
theorem v276_at (j : S2x4x2048.Idx) : res_main_v276 (F := Ideal) V0 j = root (F := Ideal) (res_main_v122 (F := Ideal) V0 j) 9 := congrArg (nwt (F := Ideal) (res_main_v122 (F := Ideal) V0 j)) (v259_at V0 j)

/-- Newton's value after 10 steps. -/
theorem v293_at (j : S2x4x2048.Idx) : res_main_v293 (F := Ideal) V0 j = root (F := Ideal) (res_main_v122 (F := Ideal) V0 j) 10 := congrArg (nwt (F := Ideal) (res_main_v122 (F := Ideal) V0 j)) (v276_at V0 j)

/-- Newton's value after 11 steps. -/
theorem v310_at (j : S2x4x2048.Idx) : res_main_v310 (F := Ideal) V0 j = root (F := Ideal) (res_main_v122 (F := Ideal) V0 j) 11 := congrArg (nwt (F := Ideal) (res_main_v122 (F := Ideal) V0 j)) (v293_at V0 j)

/-- The identity matrix entry by entry. -/
theorem eye_at (x y : Fin 3) : FloatOps.uitofp (F := Ideal) FTy.f32
    (IntOp.cmpi CmpIPredicate.eq (IntOp.addi (BitVec.ofNat 32 x.val) 0#32) (BitVec.ofNat 32 y.val)) = if x = y then (1 : EReal) else 0 := by
  have h : IntOp.cmpi CmpIPredicate.eq (IntOp.addi (BitVec.ofNat 32 x.val) 0#32) (BitVec.ofNat 32 y.val) = if x = y then 1#1 else 0#1 := by
    revert x y
    decide
  rw [h]
  split
  · show (((1#1 : BitVec 1).toNat : ℝ) : EReal) = 1
    simp
  · show (((0#1 : BitVec 1).toNat : ℝ) : EReal) = 0
    simp

/-- The matrix less its smallest eigenvalue on the diagonal, entry by entry. -/
theorem v341_at (g : Fin 2) (b : Fin 4) (n : Fin 2048) (x y : Fin 3)
    (hr : res_main_v122 (F := Ideal) V0 (ix3 g b n) = rS (M V0 (ix3 g b n))) :
    res_main_v341 (F := Ideal) V0 (ix5 g b n x y) = C V0 (ix3 g b n) x y - lS (M V0 (ix3 g b n)) * (if x = y then 1 else 0) := by
  have h310 := v310_at V0 (ix3 g b n)
  have h78 := v78_at V0 (ix3 g b n)
  have h99 := v99_at V0 (ix3 g b n)
  unfold res_main_v341 C
  generalize res_main_v62 V0 = z at *
  generalize res_main_v310 V0 = z1 at *
  generalize res_main_v122 V0 = z2 at *
  generalize res_main_v78 V0 = z3 at *
  generalize res_main_v99 V0 = z4 at *
  pointwise
  rw [eye_at, h78, h99, h310, hr]
  rfl

/-- The three rows of the shifted matrix. -/
theorem v343_at (g : Fin 2) (b : Fin 4) (n : Fin 2048) (y : Fin 3) :
    res_main_v343 (F := Ideal) V0 (ix4 g b n y) = res_main_v341 (F := Ideal) V0 (ix5 g b n 0 y) := by
  unfold res_main_v343
  generalize res_main_v341 V0 = z
  pointwise
@[inherit_doc v343_at] theorem v345_at (g : Fin 2) (b : Fin 4) (n : Fin 2048) (y : Fin 3) :
    res_main_v345 (F := Ideal) V0 (ix4 g b n y) = res_main_v341 (F := Ideal) V0 (ix5 g b n 1 y) := by
  unfold res_main_v345
  generalize res_main_v341 V0 = z
  pointwise
@[inherit_doc v343_at] theorem v347_at (g : Fin 2) (b : Fin 4) (n : Fin 2048) (y : Fin 3) :
    res_main_v347 (F := Ideal) V0 (ix4 g b n y) = res_main_v341 (F := Ideal) V0 (ix5 g b n 2 y) := by
  unfold res_main_v347
  generalize res_main_v341 V0 = z
  pointwise

/-- The cross product of two vectors. -/
def crossE (u v : Fin 3 → EReal) : Fin 3 → EReal :=
  ![u 1 * v 2 - u 2 * v 1, u 2 * v 0 - u 0 * v 2, u 0 * v 1 - u 1 * v 0]

/-- The cross product of the first and the second row. -/
theorem v384_at (g : Fin 2) (b : Fin 4) (n : Fin 2048) (k : Fin 3) :
    res_main_v384 (F := Ideal) V0 (ix4 g b n k)
      = crossE (fun y => res_main_v343 (F := Ideal) V0 (ix4 g b n y)) (fun y => res_main_v345 (F := Ideal) V0 (ix4 g b n y)) k := by
  unfold res_main_v384 crossE
  generalize res_main_v343 V0 = u
  generalize res_main_v345 V0 = v
  fin_cases k <;> simp only [Fin.mk_one, Fin.zero_eta, Fin.reduceFinMk, Matrix.cons_val] <;> pointwise

@[inherit_doc v384_at] theorem v421_at (g : Fin 2) (b : Fin 4) (n : Fin 2048) (k : Fin 3) :
    res_main_v421 (F := Ideal) V0 (ix4 g b n k)
      = crossE (fun y => res_main_v343 (F := Ideal) V0 (ix4 g b n y)) (fun y => res_main_v347 (F := Ideal) V0 (ix4 g b n y)) k := by
  unfold res_main_v421 crossE
  generalize res_main_v343 V0 = u
  generalize res_main_v347 V0 = v
  fin_cases k <;> simp only [Fin.mk_one, Fin.zero_eta, Fin.reduceFinMk, Matrix.cons_val] <;> pointwise

@[inherit_doc v384_at] theorem v458_at (g : Fin 2) (b : Fin 4) (n : Fin 2048) (k : Fin 3) :
    res_main_v458 (F := Ideal) V0 (ix4 g b n k)
      = crossE (fun y => res_main_v345 (F := Ideal) V0 (ix4 g b n y)) (fun y => res_main_v347 (F := Ideal) V0 (ix4 g b n y)) k := by
  unfold res_main_v458 crossE
  generalize res_main_v345 V0 = u
  generalize res_main_v347 V0 = v
  fin_cases k <;> simp only [Fin.mk_one, Fin.zero_eta, Fin.reduceFinMk, Matrix.cons_val] <;> pointwise

/-- The squared length of a cross product. -/
theorem v460_at (j : S2x4x2048.Idx) : res_main_v460 (F := Ideal) V0 j
    = sqS (F := Ideal) fun k => res_main_v384 (F := Ideal) V0 (ix4 (j 0) (j 1) (j 2) k) := by
  unfold res_main_v460
  generalize res_main_v384 V0 = u
  idx_vars j
  pointwise
  rw [Fin.sum_univ_three]
  rfl

/-- The squared length of a cross product. -/
theorem v462_at (j : S2x4x2048.Idx) : res_main_v462 (F := Ideal) V0 j
    = sqS (F := Ideal) fun k => res_main_v421 (F := Ideal) V0 (ix4 (j 0) (j 1) (j 2) k) := by
  unfold res_main_v462
  generalize res_main_v421 V0 = u
  idx_vars j
  pointwise
  rw [Fin.sum_univ_three]
  rfl

/-- The squared length of a cross product. -/
theorem v464_at (j : S2x4x2048.Idx) : res_main_v464 (F := Ideal) V0 j
    = sqS (F := Ideal) fun k => res_main_v458 (F := Ideal) V0 (ix4 (j 0) (j 1) (j 2) k) := by
  unfold res_main_v464
  generalize res_main_v458 V0 = u
  idx_vars j
  pointwise
  rw [Fin.sum_univ_three]
  rfl

/-- The choice of the second of two bits needs the first one's refusal only where the first refuses. -/
theorem select_refused (p r : BitVec 1) (x y z : EReal) :
    Scalar.select p x (Scalar.select (IntOp.andi (IntOp.xori p 1#1) r) y z) = Scalar.select p x (Scalar.select r y z) := by
  obtain rfl | rfl : p = 0#1 ∨ p = 1#1 := by revert p; decide
  · have : IntOp.andi (IntOp.xori 0#1 1#1) r = r := by revert r; decide
    rw [this]
  · rfl

/-- The longest cross product. -/
theorem v472_at (g : Fin 2) (b : Fin 4) (n : Fin 2048) (k : Fin 3) :
    res_main_v472 (F := Ideal) V0 (ix4 g b n k)
      = longest (F := Ideal) (fun k => res_main_v384 (F := Ideal) V0 (ix4 g b n k)) (fun k => res_main_v421 (F := Ideal) V0 (ix4 g b n k))
          (fun k => res_main_v458 (F := Ideal) V0 (ix4 g b n k)) k := by
  have h460 := v460_at V0 (ix3 g b n)
  have h462 := v462_at V0 (ix3 g b n)
  have h464 := v464_at V0 (ix3 g b n)
  refine Eq.trans ?_ (select_refused _ _ _ _ _).symm
  unfold res_main_v472
  generalize res_main_v384 V0 = u at *
  generalize res_main_v421 V0 = v at *
  generalize res_main_v458 V0 = w at *
  generalize res_main_v460 V0 = x at *
  generalize res_main_v462 V0 = y at *
  generalize res_main_v464 V0 = z at *
  pointwise
  rw [h460, h462, h464]
  rfl

/-- The normal of a point. -/
theorem v480_at (g : Fin 2) (b : Fin 4) (n : Fin 2048) (k : Fin 3) :
    res_main_v480 (F := Ideal) V0 (ix4 g b n k) = unit (F := Ideal) (fun k => res_main_v472 (F := Ideal) V0 (ix4 g b n k)) k := by
  unfold res_main_v480
  generalize res_main_v472 V0 = u
  pointwise
  rw [Fin.sum_univ_three]
  rfl

/-- The rows of a symmetric matrix less a number on its diagonal. -/
theorem cross_shift (m : Sym Ideal) (k : Fin 3) (R : Fin 3 → Fin 3 → EReal)
    (h00 : R 0 0 = (shiftS m).a) (h11 : R 1 1 = (shiftS m).b) (h22 : R 2 2 = (shiftS m).c) (h01 : R 0 1 = (shiftS m).d)
    (h10 : R 1 0 = (shiftS m).d) (h02 : R 0 2 = (shiftS m).e) (h20 : R 2 0 = (shiftS m).e) (h12 : R 1 2 = (shiftS m).f)
    (h21 : R 2 1 = (shiftS m).f) :
    crossE (R 0) (R 1) k = crossS (shiftS m) 0 k ∧ crossE (R 0) (R 2) k = crossS (shiftS m) 1 k
      ∧ crossE (R 1) (R 2) k = crossS (shiftS m) 2 k := by
  unfold crossE crossS
  rw [h00, h11, h22, h01, h10, h02, h20, h12, h21]
  exact ⟨rfl, rfl, rfl⟩

/-- The normal of a point, from its covariance matrix. -/
theorem normal_at (g : Fin 2) (b : Fin 4) (n : Fin 2048) (hs : ∀ x y, C V0 (ix3 g b n) x y = C V0 (ix3 g b n) y x)
    (hr : res_main_v122 (F := Ideal) V0 (ix3 g b n) = rS (M V0 (ix3 g b n))) (k : Fin 3) :
    res_main_v480 (F := Ideal) V0 (ix4 g b n k) = normalS (M V0 (ix3 g b n)) k := by
  have hR : ∀ x y, x ≠ y → res_main_v341 (F := Ideal) V0 (ix5 g b n x y) = C V0 (ix3 g b n) x y := fun x y h => by
    rw [v341_at V0 g b n x y hr, if_neg h, mul_zero, sub_zero]
  have hD : ∀ x, res_main_v341 (F := Ideal) V0 (ix5 g b n x x) = C V0 (ix3 g b n) x x - lS (M V0 (ix3 g b n)) := fun x => by
    rw [v341_at V0 g b n x x hr, if_pos rfl, mul_one]
  have hc := fun k => cross_shift (M V0 (ix3 g b n)) k (fun x y => res_main_v341 (F := Ideal) V0 (ix5 g b n x y))
    (hD 0) (hD 1) (hD 2) (hR 0 1 (by decide)) ((hR 1 0 (by decide)).trans (hs 1 0)) (hR 0 2 (by decide))
    ((hR 2 0 (by decide)).trans (hs 2 0)) (hR 1 2 (by decide)) ((hR 2 1 (by decide)).trans (hs 2 1))
  have e384 : (fun k => res_main_v384 (F := Ideal) V0 (ix4 g b n k)) = crossS (shiftS (M V0 (ix3 g b n))) 0 := funext fun k => by
    rw [v384_at]
    simp only [v343_at, v345_at]
    exact (hc k).1
  have e421 : (fun k => res_main_v421 (F := Ideal) V0 (ix4 g b n k)) = crossS (shiftS (M V0 (ix3 g b n))) 1 := funext fun k => by
    rw [v421_at]
    simp only [v343_at, v347_at]
    exact (hc k).2.1
  have e458 : (fun k => res_main_v458 (F := Ideal) V0 (ix4 g b n k)) = crossS (shiftS (M V0 (ix3 g b n))) 2 := funext fun k => by
    rw [v458_at]
    simp only [v345_at, v347_at]
    exact (hc k).2.2
  rw [v480_at, show (fun k => res_main_v472 (F := Ideal) V0 (ix4 g b n k))
    = longest (crossS (shiftS (M V0 (ix3 g b n))) 0) (crossS (shiftS (M V0 (ix3 g b n))) 1) (crossS (shiftS (M V0 (ix3 g b n))) 2)
    from funext fun k => by rw [v472_at, ← e384, ← e421, ← e458]]
  rfl

end Cert.Nearest
-- ==== Proof.Select.lean ====
/- The kernel's choice of the ten nearest points, as a fact about the numbers of one row: the two smallest numbers of each
   residue class modulo 128, the tenth smallest distinct value of those, and the points at or below it. -/
module

public import Idealize.ShloMosaic.PureOps.Ideal

@[expose] public section

noncomputable section

namespace Cert.Nearest

/-- `lo` and `hi` are the smallest and the second smallest of the numbers `D k`, `k` in `S`, counted with repetition. -/
def Two {κ : Type} (D : κ → EReal) (S : Finset κ) (lo hi : EReal) : Prop :=
  ∃ k ∈ S, ∃ k' ∈ S, k ≠ k' ∧ lo = D k ∧ hi = D k' ∧ lo ≤ hi ∧ ∀ j ∈ S, j ≠ k → hi ≤ D j

variable {κ : Type} [DecidableEq κ]

/-- Two different places. -/
theorem two_pair (D : κ → EReal) (k k' : κ) (h : k ≠ k') : Two D {k, k'} (min (D k) (D k')) (max (D k) (D k')) := by
  rcases le_total (D k) (D k') with hle | hle
  · refine ⟨k, by simp, k', by simp, h, by simp [hle], by simp [hle], by simp [hle], fun j hj hne => ?_⟩
    simp only [Finset.mem_insert, Finset.mem_singleton] at hj
    rcases hj with rfl | rfl
    · exact absurd rfl hne
    · simp [hle]
  · refine ⟨k', by simp, k, by simp, h.symm, by simp [hle], by simp [hle], by simp [hle], fun j hj hne => ?_⟩
    simp only [Finset.mem_insert, Finset.mem_singleton] at hj
    rcases hj with rfl | rfl
    · simp [hle]
    · exact absurd rfl hne

/-- One half of the merge: the smaller of the two minima is the first one's. -/
theorem two_merge_of_le (D : κ → EReal) (S T : Finset κ) (hd : Disjoint S T) {l1 h1 l2 h2 : EReal} (hS : Two D S l1 h1)
    (hT : Two D T l2 h2) (hle : l1 ≤ l2) : Two D (S ∪ T) l1 (min l2 h1) := by
  obtain ⟨a, ha, a', ha', hne, e1, e2, hl, hall⟩ := hS
  obtain ⟨b, hb, b', hb', hneb, f1, f2, hlb, hallb⟩ := hT
  have hab : ∀ x ∈ T, x ≠ a := fun x hx hxa => (Finset.disjoint_left.mp hd ha) (hxa ▸ hx)
  have hT2 : ∀ j ∈ T, l2 ≤ D j := fun j hj => by
    by_cases hjb : j = b
    · rw [hjb, f1]
    · exact hlb.trans (hallb j hj hjb)
  have hub : ∀ j ∈ S ∪ T, j ≠ a → min l2 h1 ≤ D j := fun j hj hja => by
    rcases Finset.mem_union.mp hj with h | h
    · exact (min_le_right _ _).trans (hall j h hja)
    · exact (min_le_left _ _).trans (hT2 j h)
  rcases le_total l2 h1 with h | h
  · exact ⟨a, Finset.mem_union_left _ ha, b, Finset.mem_union_right _ hb, (hab b hb).symm, e1, by rw [min_eq_left h, f1],
      by rw [min_eq_left h]; exact hle, hub⟩
  · exact ⟨a, Finset.mem_union_left _ ha, a', Finset.mem_union_left _ ha', hne, e1, by rw [min_eq_right h, e2],
      by rw [min_eq_right h]; exact hl, hub⟩

/-- Two disjoint sets of places: the two smallest of their union from the two smallest of each. -/
theorem two_merge (D : κ → EReal) (S T : Finset κ) (hd : Disjoint S T) {l1 h1 l2 h2 : EReal} (hS : Two D S l1 h1)
    (hT : Two D T l2 h2) : Two D (S ∪ T) (min l1 l2) (min (max l1 l2) (min h1 h2)) := by
  have o1 : l1 ≤ h1 := by obtain ⟨_, _, _, _, _, _, _, h, _⟩ := hS; exact h
  have o2 : l2 ≤ h2 := by obtain ⟨_, _, _, _, _, _, _, h, _⟩ := hT; exact h
  rcases le_total l1 l2 with h | h
  · rw [min_eq_left h, max_eq_right h, show min l2 (min h1 h2) = min l2 h1 by
      rw [min_comm h1 h2, ← min_assoc, min_eq_left o2]]
    exact two_merge_of_le D S T hd hS hT h
  · rw [min_eq_right h, max_eq_left h, show min l1 (min h1 h2) = min l1 h2 by rw [← min_assoc, min_eq_left o1],
      Finset.union_comm]
    exact two_merge_of_le D T S hd.symm hT hS h

/-- The pair after one merge of the tournament. -/
def join (p q : EReal × EReal) : EReal × EReal := (min p.1 q.1, min (max p.1 q.1) (min p.2 q.2))

/-- The pair of two neighbouring places. -/
def couple (a b : EReal) : EReal × EReal := (min a b, max a b)

/-- The kernel's tournament over sixteen numbers. -/
def tourney (D : Fin 16 → EReal) : EReal × EReal :=
  join (join (join (couple (D 0) (D 1)) (couple (D 2) (D 3))) (join (couple (D 4) (D 5)) (couple (D 6) (D 7))))
    (join (join (couple (D 8) (D 9)) (couple (D 10) (D 11))) (join (couple (D 12) (D 13)) (couple (D 14) (D 15))))

/-- The tournament finds the two smallest. -/
theorem two_tourney (D : Fin 16 → EReal) : Two D Finset.univ (tourney D).1 (tourney D).2 := by
  have P : ∀ k k' : Fin 16, k ≠ k' → Two D {k, k'} (couple (D k) (D k')).1 (couple (D k) (D k')).2 := two_pair D
  have M : ∀ (S T : Finset (Fin 16)) (p q : EReal × EReal), Disjoint S T → Two D S p.1 p.2 → Two D T q.1 q.2 →
      Two D (S ∪ T) (join p q).1 (join p q).2 := fun S T p q hd h h' => two_merge D S T hd h h'
  have h := M _ _ _ _ (by decide)
    (M _ _ _ _ (by decide) (M _ _ _ _ (by decide) (P 0 1 (by decide)) (P 2 3 (by decide)))
      (M _ _ _ _ (by decide) (P 4 5 (by decide)) (P 6 7 (by decide))))
    (M _ _ _ _ (by decide) (M _ _ _ _ (by decide) (P 8 9 (by decide)) (P 10 11 (by decide)))
      (M _ _ _ _ (by decide) (P 12 13 (by decide)) (P 14 15 (by decide))))
  have e : (((({0, 1} : Finset (Fin 16)) ∪ {2, 3}) ∪ ({4, 5} ∪ {6, 7})) ∪ (({8, 9} ∪ {10, 11}) ∪ ({12, 13} ∪ {14, 15})))
      = Finset.univ := by decide
  rw [e] at h
  exact h

/-! ## The tenth smallest distinct value -/

variable {ι : Type} [Fintype ι]

/-- The smallest of the numbers `W j` that lies above `t`, or `⊤`. -/
def nextAbove (W : ι → EReal) (t : EReal) : EReal := Finset.univ.inf fun j => if t < W j then W j else ⊤

/-- The smallest number, then the next larger ones. -/
def thr (W : ι → EReal) : ℕ → EReal
  | 0 => Finset.univ.inf W
  | n + 1 => nextAbove W (thr W n)

/-- If the numbers `W j` contain `v 0 < … < v 9` and all others are above `v 9`, the `n`-th threshold is `v n`. -/
theorem thr_eq (W : ι → EReal) (v : Fin 10 → EReal) (hv : StrictMono v) (hin : ∀ r, ∃ j, W j = v r)
    (hout : ∀ j, (∃ r, W j = v r) ∨ v 9 < W j) : ∀ (n : ℕ) (hn : n < 10), thr W n = v ⟨n, hn⟩ := by
  intro n
  induction n with
  | zero =>
    intro hn
    refine le_antisymm ?_ ?_
    · obtain ⟨j, hj⟩ := hin ⟨0, hn⟩
      exact hj ▸ Finset.inf_le (Finset.mem_univ j)
    · refine Finset.le_inf fun j _ => ?_
      rcases hout j with ⟨r, hr⟩ | h
      · rw [hr]; exact hv.monotone (Fin.mk_le_of_le_val (Nat.zero_le _))
      · exact (hv.monotone (Fin.mk_le_of_le_val (Nat.zero_le _))).trans h.le
  | succ n ih =>
    intro hn
    have hn' : n < 10 := by omega
    show nextAbove W (thr W n) = _
    rw [ih hn']
    refine le_antisymm ?_ ?_
    · obtain ⟨j, hj⟩ := hin ⟨n + 1, hn⟩
      have hlt : v ⟨n, hn'⟩ < W j := by rw [hj]; exact hv (by simp [Fin.lt_def])
      have := Finset.inf_le (f := fun j => if v ⟨n, hn'⟩ < W j then W j else ⊤) (Finset.mem_univ j)
      simp only [hlt, if_true] at this
      rw [hj] at this
      exact this
    · refine Finset.le_inf fun j _ => ?_
      by_cases hlt : v ⟨n, hn'⟩ < W j
      · rw [if_pos hlt]
        rcases hout j with ⟨r, hr⟩ | h
        · rw [hr] at hlt ⊢
          have := hv.lt_iff_lt.mp hlt
          refine hv.monotone ?_
          rw [Fin.lt_def] at this
          exact this
        · exact (hv.monotone (by rw [Fin.le_def]; show n + 1 ≤ 9; omega)).trans h.le
      · rw [if_neg hlt]; exact le_top

/-- The place in chunk `k` of the row at lane `l`. -/
def place (k : Fin 16) (l : Fin 128) : Fin 2048 := ⟨128 * k.val + l.val, by omega⟩

/-- THE CHOICE. If ten places have increasing numbers and every other place a larger number than they, and no three of them
    have the same lane, then the places at or below the tenth threshold of the class minima are these ten. -/
theorem chosen (D : Fin 2048 → EReal) (i : Fin 10 → Fin 2048) (hmono : StrictMono fun r => D (i r))
    (hout : ∀ m, (∀ r, m ≠ i r) → D (i 9) < D m)
    (hcrowd : ∀ r s t, r ≠ s → s ≠ t → r ≠ t → (i r).val % 128 = (i s).val % 128 → (i s).val % 128 ≠ (i t).val % 128)
    (W : ι → EReal) (inlo inhi : Fin 128 → ι) (hcov : ∀ j, (∃ l, j = inlo l) ∨ ∃ l, j = inhi l)
    (hlo : ∀ l, W (inlo l) = (tourney fun k => D (place k l)).1) (hhi : ∀ l, W (inhi l) = (tourney fun k => D (place k l)).2)
    (m : Fin 2048) : D m ≤ thr W 9 ↔ ∃ r, m = i r := by
  have hex : ∀ m, (∃ r, m = i r) ∨ D (i 9) < D m := fun m => by
    by_cases h : ∃ r, m = i r
    · exact .inl h
    · exact .inr (hout m fun r hr => h ⟨r, hr⟩)
  have hle9 : ∀ r, D (i r) ≤ D (i 9) := fun r => hmono.monotone (Fin.le_last r)
  have hval : ∀ m, (∃ r, D m = D (i r)) ∨ D (i 9) < D m := fun m => by
    rcases hex m with ⟨r, rfl⟩ | h
    · exact .inl ⟨r, rfl⟩
    · exact .inr h
  have key := thr_eq W (fun r => D (i r)) hmono ?_ ?_ 9 (by norm_num)
  · rw [key]
    constructor
    · intro h
      rcases hex m with h' | h'
      · exact h'
      · exact absurd h (not_le.mpr h')
    · rintro ⟨r, rfl⟩
      exact hle9 r
  · intro r
    set l : Fin 128 := ⟨(i r).val % 128, Nat.mod_lt _ (by norm_num)⟩ with hl
    set k0 : Fin 16 := ⟨(i r).val / 128, by omega⟩ with hk0
    have hp : place k0 l = i r := Fin.ext (by simp only [place, hl, hk0]; omega)
    obtain ⟨k, -, k', -, hne, e1, e2, hlh, hall⟩ := two_tourney fun k => D (place k l)
    by_cases h1 : k0 = k
    · exact ⟨inlo l, by rw [hlo, e1, ← h1]; beta_reduce; rw [hp]⟩
    by_cases h2 : k0 = k'
    · exact ⟨inhi l, by rw [hhi, e2, ← h2]; beta_reduce; rw [hp]⟩
    exfalso
    have b1 := hall k0 (Finset.mem_univ _) h1
    simp only [hp] at b1
    have lek' : D (place k' l) ≤ D (i 9) := (e2 ▸ b1).trans (hle9 r)
    have lek : D (place k l) ≤ D (i 9) := (e1 ▸ hlh.trans b1).trans (hle9 r)
    obtain ⟨s, hs⟩ := (hex (place k l)).resolve_right (not_lt.mpr lek)
    obtain ⟨t, ht⟩ := (hex (place k' l)).resolve_right (not_lt.mpr lek')
    have vr : (i r).val = 128 * k0.val + l.val := by rw [← hp]; rfl
    have vs : (i s).val = 128 * k.val + l.val := by rw [← hs]; rfl
    have vt : (i t).val = 128 * k'.val + l.val := by rw [← ht]; rfl
    have n1 : k0.val ≠ k.val := fun h => h1 (Fin.ext h)
    have n2 : k0.val ≠ k'.val := fun h => h2 (Fin.ext h)
    have n3 : k.val ≠ k'.val := fun h => hne (Fin.ext h)
    refine hcrowd r s t ?_ ?_ ?_ (by omega) (by omega)
    · rintro rfl; omega
    · rintro rfl; omega
    · rintro rfl; omega
  · intro j
    rcases hcov j with ⟨l, rfl⟩ | ⟨l, rfl⟩
    · obtain ⟨k, -, k', -, hne, e1, e2, hlh, hall⟩ := two_tourney fun k => D (place k l)
      rw [hlo, e1]; exact hval _
    · obtain ⟨k, -, k', -, hne, e1, e2, hlh, hall⟩ := two_tourney fun k => D (place k l)
      rw [hhi, e2]; exact hval _

end Cert.Nearest

end
-- ==== Proof.KPickVal.lean ====
/- The selection of one half read over the extended reals at one row. -/
module

public import proofs.«01_k».proof.Proof.KPick
public import proofs.«01_k».proof.Proof.Select
public import Idealize.ShloMosaic.Lib.Pointwise
public import Idealize.ShloMosaic.Lib.Pipeline.Value

@[expose] public section

set_option maxRecDepth 16384

noncomputable section

namespace Cert.Nearest

open Idealize.ShloMosaic Cert.KernelIdeal Cert.KernelIdeal.Gen

/-- The tournament at a lane, the smallest. -/
theorem tourneyV_fst (c : Fin 16 → FVec Ideal S512x128 .f32) (i : S512x128.Idx) :
    (tourneyV c).1 i = (tourney fun k => c k i).1 := rfl

/-- The tournament at a lane, the second smallest. -/
theorem tourneyV_snd (c : Fin 16 → FVec Ideal S512x128 .f32) (i : S512x128.Idx) :
    (tourneyV c).2 i = (tourney fun k => c k i).2 := rfl

/-- The first 128 columns are the smallest. -/
theorem bothV_lo (c : Fin 16 → FVec Ideal S512x128 .f32) (n : Fin 512) (l : Fin 128) :
    bothV c (ix2 n ⟨l.val, by omega⟩) = (tourney fun k => c k (ix2 n l)).1 := by
  rw [← tourneyV_fst]
  unfold bothV
  generalize (tourneyV c).1 = a
  generalize (tourneyV c).2 = b
  pointwise

/-- The last 128 columns are the second smallest. -/
theorem bothV_hi (c : Fin 16 → FVec Ideal S512x128 .f32) (n : Fin 512) (l : Fin 128) :
    bothV c (ix2 n ⟨128 + l.val, by omega⟩) = (tourney fun k => c k (ix2 n l)).2 := by
  rw [← tourneyV_snd]
  unfold bothV
  generalize (tourneyV c).1 = a
  generalize (tourneyV c).2 = b
  pointwise

/-- The infinity that the minima start from. -/
theorem ofBits_inf : Ideal.ofBits .f32 0x7F800000#32 = ⊤ := by
  simp [Ideal.ofBits, Ideal.ieee, -EReal.coe_mul]

/-- The least of a row. -/
theorem leastV_at (w : FVec Ideal S512x256 .f32) (n : Fin 512) :
    leastV w (ix2 n 0) = Finset.univ.inf fun j : Fin 256 => w (ix2 n j) := by
  unfold leastV
  pointwise
  rw [show (2139095040#32 : BitVec 32) = 0x7F800000#32 from rfl, ofBits_inf]
  rfl

/-- The thresholds of a row. -/
theorem thrV_at (w : FVec Ideal S512x256 .f32) (n : Fin 512) (k : ℕ) :
    thrV w k (ix2 n 0) = thr (fun j : Fin 256 => w (ix2 n j)) k := by
  induction k with
  | zero => exact leastV_at w n
  | succ k ih =>
    rw [thrV, thr, leastV_at, ← ih]
    unfold nextAbove
    congr 1
    funext j
    generalize thrV w k = t
    pointwise
    rw [show (2139095040#32 : BitVec 32) = 0x7F800000#32 from rfl, ofBits_inf]

/-- Sixteen masks side by side. -/
def catV (m : Fin 16 → IVec S512x128 1) : IVec S512x2048 1 :=
  concatenate S512x2048 1 [⟨S512x128, m 0⟩, ⟨S512x128, m 1⟩, ⟨S512x128, m 2⟩, ⟨S512x128, m 3⟩, ⟨S512x128, m 4⟩, ⟨S512x128, m 5⟩, ⟨S512x128, m 6⟩, ⟨S512x128, m 7⟩, ⟨S512x128, m 8⟩, ⟨S512x128, m 9⟩, ⟨S512x128, m 10⟩, ⟨S512x128, m 11⟩, ⟨S512x128, m 12⟩, ⟨S512x128, m 13⟩, ⟨S512x128, m 14⟩, ⟨S512x128, m 15⟩]
    concatenates_S512x128_S512x128_S512x128_S512x128_S512x128_S512x128_S512x128_S512x128_S512x128_S512x128_S512x128_S512x128_S512x128_S512x128_S512x128_S512x128_S512x2048_d1

/-- A mask of sixteen at a chunk's lane. -/
theorem catV_at (m : Fin 16 → IVec S512x128 1) (n : Fin 512) (k : Fin 16) (l : Fin 128) :
    catV m (ix2 n (place k l)) = m k (ix2 n l) := by
  refine concatenate_ofFn_apply (s₁ := S512x128) (t := S512x2048) 1 m
    (concatenates_S512x128_S512x128_S512x128_S512x128_S512x128_S512x128_S512x128_S512x128_S512x128_S512x128_S512x128_S512x128_S512x128_S512x128_S512x128_S512x128_S512x2048_d1)
    rfl 128 rfl (ix2 n (place k l)) k ?_ (ix2 n l) ?_ ?_
  · show (128 * k.val + l.val) / 128 = k.val
    omega
  · show l.val = (128 * k.val + l.val) % 128
    omega
  · intro b hb
    obtain ⟨b, hb'⟩ := b
    have hb2 : b < 2 := hb'
    interval_cases b
    · rfl
    · exact absurd rfl hb

/-- A mask of a whole row at a chunk's lane. -/
theorem maskV_at (c : Fin 16 → FVec Ideal S512x128 .f32) (t : FVec Ideal S512x1 .f32) (n : Fin 512) (k : Fin 16) (l : Fin 128) :
    maskV c t (ix2 n (place k l)) = if c k (ix2 n l) ≤ t (ix2 n 0) then 1#1 else 0#1 := by
  refine (catV_at (fun k => nearV (c k) t) n k l).trans ?_
  show nearV (c k) t (ix2 n l) = _
  generalize c k = x
  unfold nearV
  pointwise
  by_cases hle : x (ix2 n l) ≤ t (ix2 n 0) <;> simp [hle]

/-- A one bit mask as a number. -/
theorem mask_real (b : BitVec 1) : FloatOps.sitofp (F := Ideal) FTy.f32 (BitVec.setWidth 32 b) = if b = 1#1 then 1 else 0 := by
  obtain rfl | rfl : b = 0#1 ∨ b = 1#1 := by revert b; decide
  · show ((((BitVec.setWidth 32 0#1 : BitVec 32).toInt : ℤ) : ℝ) : EReal) = _
    simp
  · show ((((BitVec.setWidth 32 1#1 : BitVec 32).toInt : ℤ) : ℝ) : EReal) = _
    have : (BitVec.setWidth 32 1#1 : BitVec 32).toInt = 1 := by decide
    rw [this]
    simp

/-- The sums at a feature and a row. -/
theorem sumV_at (m : IVec S512x2048 1) (fhi flo : FVec Ideal S2048x16 .bf16) (n : Fin 512) (k : Fin 16) :
    sumV m fhi flo (ix2 k n) = (∑ j : Fin 2048, (if m (ix2 n j) = 1#1 then 1 else 0) * fhi (ix2 j k))
      + ∑ j : Fin 2048, (if m (ix2 n j) = 1#1 then 1 else 0) * flo (ix2 j k) := by
  unfold sumV
  pointwise
  simp only [mask_real]

/-- The mask of a row, point by point: where the half distances are `D`, the points at or below the tenth threshold of the
    two smallest of each residue class. -/
theorem mask_at (c : Fin 16 → FVec Ideal S512x128 .f32) (n : Fin 512) (D : Fin 2048 → EReal)
    (hD : ∀ k l, c k (ix2 n l) = D (place k l)) (j : Fin 2048) :
    maskV c (thrV (bothV c) 9) (ix2 n j) = 1#1 ↔ D j ≤ thr (fun i : Fin 256 => bothV c (ix2 n i)) 9 := by
  obtain ⟨k, l, rfl⟩ : ∃ k l, j = place k l :=
    ⟨⟨j.val / 128, by omega⟩, ⟨j.val % 128, by omega⟩, Fin.ext (by show j.val = 128 * (j.val / 128) + j.val % 128; omega)⟩
  rw [maskV_at, hD, thrV_at]
  by_cases h : D (place k l) ≤ thr (fun i : Fin 256 => bothV c (ix2 n i)) 9 <;> simp [h]

/-- The mask of a row marks exactly the ten nearest points, if no three of them share a residue class and the eleventh is
    farther away. -/
theorem mask_chosen (c : Fin 16 → FVec Ideal S512x128 .f32) (n : Fin 512) (D : Fin 2048 → EReal)
    (hD : ∀ k l, c k (ix2 n l) = D (place k l)) (i : Fin 10 → Fin 2048) (hmono : StrictMono fun r => D (i r))
    (hout : ∀ m, (∀ r, m ≠ i r) → D (i 9) < D m)
    (hcrowd : ∀ r s t, r ≠ s → s ≠ t → r ≠ t → (i r).val % 128 = (i s).val % 128 → (i s).val % 128 ≠ (i t).val % 128)
    (j : Fin 2048) :
    maskV c (thrV (bothV c) 9) (ix2 n j) = 1#1 ↔ ∃ r, j = i r := by
  rw [mask_at c n D hD]
  refine chosen D i hmono hout hcrowd (fun x : Fin 256 => bothV c (ix2 n x)) (fun l => ⟨l.val, by omega⟩)
    (fun l => ⟨128 + l.val, by omega⟩) ?_ ?_ ?_ j
  · intro x
    by_cases hx : x.val < 128
    · exact .inl ⟨⟨x.val, hx⟩, rfl⟩
    · exact .inr ⟨⟨x.val - 128, by omega⟩, Fin.ext (by show x.val = 128 + (x.val - 128); omega)⟩
  · intro l
    exact (bothV_lo c n l).trans (by simp only [hD])
  · intro l
    exact (bothV_hi c n l).trans (by simp only [hD])

/-- A sum of a function under the marks of ten different points is the sum over the ten. -/
theorem sum_marks (b : Fin 2048 → BitVec 1) (i : Fin 10 → Fin 2048) (hi : Function.Injective i)
    (hb : ∀ j, b j = 1#1 ↔ ∃ r, j = i r) (f : Fin 2048 → EReal) :
    ∑ j : Fin 2048, (if b j = 1#1 then 1 else 0) * f j = ∑ r : Fin 10, f (i r) := by
  rw [← Finset.sum_image (s := Finset.univ) (f := f) (fun a _ c _ h => hi h), Finset.sum_congr rfl fun j _ => by
    rw [ite_mul, one_mul, zero_mul], ← Finset.sum_filter]
  refine Finset.sum_congr ?_ fun _ _ => rfl
  ext j
  simp only [Finset.mem_filter, Finset.mem_univ, true_and, Finset.mem_image, hb]
  exact ⟨fun ⟨r, h⟩ => ⟨r, h.symm⟩, fun ⟨r, h⟩ => ⟨r, h.symm⟩⟩

/-- The summed features of a half at a row whose ten nearest points are `i`. -/
theorem picked_at (h : Half Ideal) (n : Fin 512) (D : Fin 2048 → EReal)
    (hD : ∀ k l, chunks h k (ix2 n l) = D (place k l)) (i : Fin 10 → Fin 2048) (hmono : StrictMono fun r => D (i r))
    (hout : ∀ m, (∀ r, m ≠ i r) → D (i 9) < D m)
    (hcrowd : ∀ r s t, r ≠ s → s ≠ t → r ≠ t → (i r).val % 128 = (i s).val % 128 → (i s).val % 128 ≠ (i t).val % 128)
    (k : Fin 16) :
    picked h (ix2 k n) = (∑ r : Fin 10, h.fhi (ix2 (i r) k)) + ∑ r : Fin 10, h.flo (ix2 (i r) k) := by
  have hi : Function.Injective i := fun a b e => hmono.injective (congrArg D e)
  have hb := mask_chosen (chunks h) n D hD i hmono hout hcrowd
  unfold picked
  rw [sumV_at, sum_marks _ i hi hb, sum_marks _ i hi hb]

end Cert.Nearest
-- ==== Proof.KRun.lean ====
/- The kernel's grid points as functions of their blocks and of what the point before left. -/
module

public import proofs.«01_k».proof.Proof.KStep
public import Idealize.ShloMosaic.Lib.Pipeline.ValueKit
public import Idealize.ShloMosaic.Lib.WholeRead

@[expose] public section

set_option maxRecDepth 16384

noncomputable section

namespace Cert.Nearest

open Idealize.ShloMosaic Idealize.ShloMosaic.TcCoe Cert.KernelIdeal Cert.KernelIdeal.Gen

variable {F : FTy → Type} [FloatOps F] [Named F]

/-- A half read from whole arrays. -/
def halfOf (rows : Vec F S1x512x128 .f32) (cloud : Vec F S1x128x2048 .f32) (sq : Vec F S1x2048 .f32) (fhi flo : Vec F S2048x16 .bf16) : Half F where
  rows := rows
  cloud := cloud
  q0 := View.ld sq (Rect.unit (s := S1x2048) ![0, 0] S1x128.size inb_S1x2048_S1x128_0_0)
  q1 := View.ld sq (Rect.unit (s := S1x2048) ![0, 128] S1x128.size inb_S1x2048_S1x128_0_128)
  q2 := View.ld sq (Rect.unit (s := S1x2048) ![0, 256] S1x128.size inb_S1x2048_S1x128_0_256)
  q3 := View.ld sq (Rect.unit (s := S1x2048) ![0, 384] S1x128.size inb_S1x2048_S1x128_0_384)
  q4 := View.ld sq (Rect.unit (s := S1x2048) ![0, 512] S1x128.size inb_S1x2048_S1x128_0_512)
  q5 := View.ld sq (Rect.unit (s := S1x2048) ![0, 640] S1x128.size inb_S1x2048_S1x128_0_640)
  q6 := View.ld sq (Rect.unit (s := S1x2048) ![0, 768] S1x128.size inb_S1x2048_S1x128_0_768)
  q7 := View.ld sq (Rect.unit (s := S1x2048) ![0, 896] S1x128.size inb_S1x2048_S1x128_0_896)
  q8 := View.ld sq (Rect.unit (s := S1x2048) ![0, 1024] S1x128.size inb_S1x2048_S1x128_0_1024)
  q9 := View.ld sq (Rect.unit (s := S1x2048) ![0, 1152] S1x128.size inb_S1x2048_S1x128_0_1152)
  q10 := View.ld sq (Rect.unit (s := S1x2048) ![0, 1280] S1x128.size inb_S1x2048_S1x128_0_1280)
  q11 := View.ld sq (Rect.unit (s := S1x2048) ![0, 1408] S1x128.size inb_S1x2048_S1x128_0_1408)
  q12 := View.ld sq (Rect.unit (s := S1x2048) ![0, 1536] S1x128.size inb_S1x2048_S1x128_0_1536)
  q13 := View.ld sq (Rect.unit (s := S1x2048) ![0, 1664] S1x128.size inb_S1x2048_S1x128_0_1664)
  q14 := View.ld sq (Rect.unit (s := S1x2048) ![0, 1792] S1x128.size inb_S1x2048_S1x128_0_1792)
  q15 := View.ld sq (Rect.unit (s := S1x2048) ![0, 1920] S1x128.size inb_S1x2048_S1x128_0_1920)
  fhi := fhi
  flo := flo

/-- The half a point of the run reads through its memrefs is the half of their contents. -/
theorem half_read {a2 : Memref sig .tc .vmem S1x512x128 .f32} (ha2 : a2.IsWhole) {a3 : Memref sig .tc .vmem S1x128x2048 .f32}
    (ha3 : a3.IsWhole) {a11 : Memref sig .tc .vmem S1x2048 .f32} (ha11 : a11.IsWhole) {a7 : Memref sig .tc .vmem S2048x16 .bf16}
    (ha7 : a7.IsWhole) {a8 : Memref sig .tc .vmem S2048x16 .bf16} (ha8 : a8.IsWhole) (x0 : Vec F S1x512x128 .f32)
    (x1 : Vec F S1x128x2048 .f32) (x4 : Vec F S1x2048 .f32) (y0 y1 : Vec F S2048x16 .bf16) :
    (⟨View.readAt (Elt F) a2.view (Rect.unit (s := S1x512x128) ![0, 0, 0] S1x512x128.size inb_S1x512x128_S1x512x128_0_0_0).toLoadRect (ha2.unread x0), View.readAt (Elt F) a3.view (Rect.unit (s := S1x128x2048) ![0, 0, 0] S1x128x2048.size inb_S1x128x2048_S1x128x2048_0_0_0).toLoadRect (ha3.unread x1),
    View.readAt (Elt F) a11.view (Rect.unit (s := S1x2048) ![0, 0] S1x128.size inb_S1x2048_S1x128_0_0).toLoadRect (ha11.unread x4),
    View.readAt (Elt F) a11.view (Rect.unit (s := S1x2048) ![0, 128] S1x128.size inb_S1x2048_S1x128_0_128).toLoadRect (ha11.unread x4),
    View.readAt (Elt F) a11.view (Rect.unit (s := S1x2048) ![0, 256] S1x128.size inb_S1x2048_S1x128_0_256).toLoadRect (ha11.unread x4),
    View.readAt (Elt F) a11.view (Rect.unit (s := S1x2048) ![0, 384] S1x128.size inb_S1x2048_S1x128_0_384).toLoadRect (ha11.unread x4),
    View.readAt (Elt F) a11.view (Rect.unit (s := S1x2048) ![0, 512] S1x128.size inb_S1x2048_S1x128_0_512).toLoadRect (ha11.unread x4),
    View.readAt (Elt F) a11.view (Rect.unit (s := S1x2048) ![0, 640] S1x128.size inb_S1x2048_S1x128_0_640).toLoadRect (ha11.unread x4),
    View.readAt (Elt F) a11.view (Rect.unit (s := S1x2048) ![0, 768] S1x128.size inb_S1x2048_S1x128_0_768).toLoadRect (ha11.unread x4),
    View.readAt (Elt F) a11.view (Rect.unit (s := S1x2048) ![0, 896] S1x128.size inb_S1x2048_S1x128_0_896).toLoadRect (ha11.unread x4),
    View.readAt (Elt F) a11.view (Rect.unit (s := S1x2048) ![0, 1024] S1x128.size inb_S1x2048_S1x128_0_1024).toLoadRect (ha11.unread x4),
    View.readAt (Elt F) a11.view (Rect.unit (s := S1x2048) ![0, 1152] S1x128.size inb_S1x2048_S1x128_0_1152).toLoadRect (ha11.unread x4),
    View.readAt (Elt F) a11.view (Rect.unit (s := S1x2048) ![0, 1280] S1x128.size inb_S1x2048_S1x128_0_1280).toLoadRect (ha11.unread x4),
    View.readAt (Elt F) a11.view (Rect.unit (s := S1x2048) ![0, 1408] S1x128.size inb_S1x2048_S1x128_0_1408).toLoadRect (ha11.unread x4),
    View.readAt (Elt F) a11.view (Rect.unit (s := S1x2048) ![0, 1536] S1x128.size inb_S1x2048_S1x128_0_1536).toLoadRect (ha11.unread x4),
    View.readAt (Elt F) a11.view (Rect.unit (s := S1x2048) ![0, 1664] S1x128.size inb_S1x2048_S1x128_0_1664).toLoadRect (ha11.unread x4),
    View.readAt (Elt F) a11.view (Rect.unit (s := S1x2048) ![0, 1792] S1x128.size inb_S1x2048_S1x128_0_1792).toLoadRect (ha11.unread x4),
    View.readAt (Elt F) a11.view (Rect.unit (s := S1x2048) ![0, 1920] S1x128.size inb_S1x2048_S1x128_0_1920).toLoadRect (ha11.unread x4),
    View.readAt (Elt F) a7.view (Rect.unit (s := S2048x16) ![0, 0] S2048x16.size inb_S2048x16_S2048x16_0_0).toLoadRect (ha7.unread y0),
    View.readAt (Elt F) a8.view (Rect.unit (s := S2048x16) ![0, 0] S2048x16.size inb_S2048x16_S2048x16_0_0).toLoadRect (ha8.unread y1)⟩ : Half F)
      = halfOf x0 x1 x4 y0 y1 := by
  have z3 : (![0, 0, 0] : Fin 3 → ℕ) = fun _ => 0 := by decide
  have z2 : (![0, 0] : Fin 2 → ℕ) = fun _ => 0 := by decide
  simp only [View.readAt_eq_ld, Memref.IsWhole.read_unread, halfOf]
  congr 1
  · exact View.ld_unit_zero z3 _ _
  · exact View.ld_unit_zero z3 _ _
  · exact View.ld_unit_zero z2 _ _
  · exact View.ld_unit_zero z2 _ _

/-- What point case B adds to the running sum. -/
theorem sout_B (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : ¬cond0_0 i) (hc1 : ¬cond0_1 i)
    (x0 : Vec F S1x512x128 .f32) (x1 : Vec F S1x128x2048 .f32) (x2 : Vec F S1x512x128 .f32) (x3 : Vec F S1x128x2048 .f32) (xs0 : Vec F S2048x16 .bf16) (xs1 : Vec F S2048x16 .bf16) (xs2 : Vec F S2048x16 .bf16) (xs3 : Vec F S2048x16 .bf16) (xs4 : Vec F S1x2048 .f32) (xs5 : Vec F S1x2048 .f32) (xs6 : Vec F S1x1 .f32) :
    sout0_B_6 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 = fun _ => stepAcc (halfOf x0 x1 xs4 xs0 xs1) (halfOf x2 x3 xs5 xs2 xs3) (xs6 (Shape.Idx.first (show 0 < S1x1.numel by decide))) := by
  have z2 : (![0, 0] : Fin 2 → ℕ) = fun _ => 0 := by decide
  rw [← half_read harg2 harg3 harg11 harg7 harg8 x0 x1 xs4 xs0 xs1, ← half_read harg4 harg5 harg12 harg9 harg10 x2 x3 xs5 xs2 xs3]
  have e : xs6 (Shape.Idx.first (show 0 < S1x1.numel by decide)) = View.readAt (Elt F) arg13.view (Rect.unit (s := S1x1) ![0, 0] ![1, 1] inb_S1x1_S1x1_0_0).toLoadRect (harg13.unread xs6) (Shape.Idx.first (show 0 < S1x1.numel by decide)) := by
    rw [View.readAt_eq_ld, Memref.IsWhole.read_unread]
    exact (congrFun (View.ld_unit_zero z2 _ xs6) _).symm
  rw [e]
  unfold sout0_B_6
  rw [View.read_writes_junk_eq_canon]
  unfold kernelRun0_B
  dsimp only
  refine (View.canon_unit_zero z2 _ _).trans ?_
  sl_kernel_rfl

/-- What point case C adds to the running sum. -/
theorem sout_C (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : ¬cond0_0 i) (hc1 : cond0_1 i)
    (x0 : Vec F S1x512x128 .f32) (x1 : Vec F S1x128x2048 .f32) (x2 : Vec F S1x512x128 .f32) (x3 : Vec F S1x128x2048 .f32) (xs0 : Vec F S2048x16 .bf16) (xs1 : Vec F S2048x16 .bf16) (xs2 : Vec F S2048x16 .bf16) (xs3 : Vec F S2048x16 .bf16) (xs4 : Vec F S1x2048 .f32) (xs5 : Vec F S1x2048 .f32) (xs6 : Vec F S1x1 .f32) :
    sout0_C_6 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 = fun _ => stepAcc (halfOf x0 x1 xs4 xs0 xs1) (halfOf x2 x3 xs5 xs2 xs3) (xs6 (Shape.Idx.first (show 0 < S1x1.numel by decide))) := by
  have z2 : (![0, 0] : Fin 2 → ℕ) = fun _ => 0 := by decide
  rw [← half_read harg2 harg3 harg11 harg7 harg8 x0 x1 xs4 xs0 xs1, ← half_read harg4 harg5 harg12 harg9 harg10 x2 x3 xs5 xs2 xs3]
  have e : xs6 (Shape.Idx.first (show 0 < S1x1.numel by decide)) = View.readAt (Elt F) arg13.view (Rect.unit (s := S1x1) ![0, 0] ![1, 1] inb_S1x1_S1x1_0_0).toLoadRect (harg13.unread xs6) (Shape.Idx.first (show 0 < S1x1.numel by decide)) := by
    rw [View.readAt_eq_ld, Memref.IsWhole.read_unread]
    exact (congrFun (View.ld_unit_zero z2 _ xs6) _).symm
  rw [e]
  unfold sout0_C_6
  rw [View.read_writes_junk_eq_canon]
  unfold kernelRun0_C
  dsimp only
  refine (View.canon_unit_zero z2 _ _).trans ?_
  sl_kernel_rfl

end Cert.Nearest

end
-- ==== Proof.KFirst.lean ====
/- The first grid point of a cloud: it writes the features and the half squared norms, sets the sum to zero, then takes its step. -/
module

public import proofs.«01_k».proof.Proof.KRun

@[expose] public section

set_option maxRecDepth 16384

noncomputable section

namespace Cert.Nearest

open Idealize.ShloMosaic Idealize.ShloMosaic.TcCoe Cert.KernelIdeal Cert.KernelIdeal.Gen

variable {F : FTy → Type} [FloatOps F] [Named F]

/-- The features of a cloud's points, rounded. -/
def fHi (x : Vec F S1x128x2048 .f32) : Vec F S2048x16 .bf16 := k0_pay7 x

/-- What the rounding of the features leaves. -/
def fLo (x : Vec F S1x128x2048 .f32) : Vec F S2048x16 .bf16 := k0_pay8 x

/-- Half the squared norm of each point of a cloud. -/
def fSq (x : Vec F S1x128x2048 .f32) : Vec F S1x2048 .f32 := k0_pay14 (k0_pay3 x)

/-- A half whose scratch was just written through whole stores. -/
theorem half_cov {a2 : Memref sig .tc .vmem S1x512x128 .f32} (ha2 : a2.IsWhole) {a3 : Memref sig .tc .vmem S1x128x2048 .f32}
    (ha3 : a3.IsWhole) (a11 : Memref sig .tc .vmem S1x2048 .f32) (a7 a8 : Memref sig .tc .vmem S2048x16 .bf16) (x0 : Vec F S1x512x128 .f32)
    (x1 : Vec F S1x128x2048 .f32) (x4 : Vec F S1x2048 .f32) (y0 y1 : Vec F S2048x16 .bf16) :
    (⟨View.readAt (Elt F) a2.view (Rect.unit (s := S1x512x128) ![0, 0, 0] S1x512x128.size inb_S1x512x128_S1x512x128_0_0_0).toLoadRect (ha2.unread x0), View.readAt (Elt F) a3.view (Rect.unit (s := S1x128x2048) ![0, 0, 0] S1x128x2048.size inb_S1x128x2048_S1x128x2048_0_0_0).toLoadRect (ha3.unread x1),
    a11.view.readCov [⟨Rect.unit (s := S1x2048) ![0, 0] S1x2048.size inb_S1x2048_S1x2048_0_0, x4⟩] (Rect.unit (s := S1x2048) ![0, 0] S1x128.size inb_S1x2048_S1x128_0_0).toLoadRect,
    a11.view.readCov [⟨Rect.unit (s := S1x2048) ![0, 0] S1x2048.size inb_S1x2048_S1x2048_0_0, x4⟩] (Rect.unit (s := S1x2048) ![0, 128] S1x128.size inb_S1x2048_S1x128_0_128).toLoadRect,
    a11.view.readCov [⟨Rect.unit (s := S1x2048) ![0, 0] S1x2048.size inb_S1x2048_S1x2048_0_0, x4⟩] (Rect.unit (s := S1x2048) ![0, 256] S1x128.size inb_S1x2048_S1x128_0_256).toLoadRect,
    a11.view.readCov [⟨Rect.unit (s := S1x2048) ![0, 0] S1x2048.size inb_S1x2048_S1x2048_0_0, x4⟩] (Rect.unit (s := S1x2048) ![0, 384] S1x128.size inb_S1x2048_S1x128_0_384).toLoadRect,
    a11.view.readCov [⟨Rect.unit (s := S1x2048) ![0, 0] S1x2048.size inb_S1x2048_S1x2048_0_0, x4⟩] (Rect.unit (s := S1x2048) ![0, 512] S1x128.size inb_S1x2048_S1x128_0_512).toLoadRect,
    a11.view.readCov [⟨Rect.unit (s := S1x2048) ![0, 0] S1x2048.size inb_S1x2048_S1x2048_0_0, x4⟩] (Rect.unit (s := S1x2048) ![0, 640] S1x128.size inb_S1x2048_S1x128_0_640).toLoadRect,
    a11.view.readCov [⟨Rect.unit (s := S1x2048) ![0, 0] S1x2048.size inb_S1x2048_S1x2048_0_0, x4⟩] (Rect.unit (s := S1x2048) ![0, 768] S1x128.size inb_S1x2048_S1x128_0_768).toLoadRect,
    a11.view.readCov [⟨Rect.unit (s := S1x2048) ![0, 0] S1x2048.size inb_S1x2048_S1x2048_0_0, x4⟩] (Rect.unit (s := S1x2048) ![0, 896] S1x128.size inb_S1x2048_S1x128_0_896).toLoadRect,
    a11.view.readCov [⟨Rect.unit (s := S1x2048) ![0, 0] S1x2048.size inb_S1x2048_S1x2048_0_0, x4⟩] (Rect.unit (s := S1x2048) ![0, 1024] S1x128.size inb_S1x2048_S1x128_0_1024).toLoadRect,
    a11.view.readCov [⟨Rect.unit (s := S1x2048) ![0, 0] S1x2048.size inb_S1x2048_S1x2048_0_0, x4⟩] (Rect.unit (s := S1x2048) ![0, 1152] S1x128.size inb_S1x2048_S1x128_0_1152).toLoadRect,
    a11.view.readCov [⟨Rect.unit (s := S1x2048) ![0, 0] S1x2048.size inb_S1x2048_S1x2048_0_0, x4⟩] (Rect.unit (s := S1x2048) ![0, 1280] S1x128.size inb_S1x2048_S1x128_0_1280).toLoadRect,
    a11.view.readCov [⟨Rect.unit (s := S1x2048) ![0, 0] S1x2048.size inb_S1x2048_S1x2048_0_0, x4⟩] (Rect.unit (s := S1x2048) ![0, 1408] S1x128.size inb_S1x2048_S1x128_0_1408).toLoadRect,
    a11.view.readCov [⟨Rect.unit (s := S1x2048) ![0, 0] S1x2048.size inb_S1x2048_S1x2048_0_0, x4⟩] (Rect.unit (s := S1x2048) ![0, 1536] S1x128.size inb_S1x2048_S1x128_0_1536).toLoadRect,
    a11.view.readCov [⟨Rect.unit (s := S1x2048) ![0, 0] S1x2048.size inb_S1x2048_S1x2048_0_0, x4⟩] (Rect.unit (s := S1x2048) ![0, 1664] S1x128.size inb_S1x2048_S1x128_0_1664).toLoadRect,
    a11.view.readCov [⟨Rect.unit (s := S1x2048) ![0, 0] S1x2048.size inb_S1x2048_S1x2048_0_0, x4⟩] (Rect.unit (s := S1x2048) ![0, 1792] S1x128.size inb_S1x2048_S1x128_0_1792).toLoadRect,
    a11.view.readCov [⟨Rect.unit (s := S1x2048) ![0, 0] S1x2048.size inb_S1x2048_S1x2048_0_0, x4⟩] (Rect.unit (s := S1x2048) ![0, 1920] S1x128.size inb_S1x2048_S1x128_0_1920).toLoadRect,
    a7.view.readCov [⟨Rect.unit (s := S2048x16) ![0, 0] S2048x16.size inb_S2048x16_S2048x16_0_0, y0⟩] (Rect.unit (s := S2048x16) ![0, 0] S2048x16.size inb_S2048x16_S2048x16_0_0).toLoadRect,
    a8.view.readCov [⟨Rect.unit (s := S2048x16) ![0, 0] S2048x16.size inb_S2048x16_S2048x16_0_0, y1⟩] (Rect.unit (s := S2048x16) ![0, 0] S2048x16.size inb_S2048x16_S2048x16_0_0).toLoadRect⟩ : Half F)
      = halfOf x0 x1 x4 y0 y1 := by
  have z3 : (![0, 0, 0] : Fin 3 → ℕ) = fun _ => 0 := by decide
  have z2 : (![0, 0] : Fin 2 → ℕ) = fun _ => 0 := by decide
  simp only [View.readAt_eq_ld, Memref.IsWhole.read_unread, halfOf]
  have c4 : View.canon (Val := Elt F) [⟨Rect.unit (s := S1x2048) ![0, 0] S1x2048.size inb_S1x2048_S1x2048_0_0, x4⟩] = x4 := View.canon_unit_zero z2 _ _
  congr 1
  · exact View.ld_unit_zero z3 _ _
  · exact View.ld_unit_zero z3 _ _
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · rw [View.readCov_eq_canon', c4]
  · exact View.readCov_unit_zero _ z2 _ _
  · exact View.readCov_unit_zero _ z2 _ _

/-- What the first point of a cloud leaves as the sum. -/
theorem sout_A_6 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_6 c i arg2 harg2 arg3 harg3 arg4 harg4 arg5 harg5 arg6 harg6 arg7 harg7 arg8 harg8 arg9 harg9 arg10 harg10 arg11 harg11 arg12 harg12 arg13 harg13 hc0 hc1 x0 x1 x2 x3  = fun _ => stepAcc (halfOf x0 x1 (fSq x1) (fHi x1) (fLo x1)) (halfOf x2 x3 (fSq x3) (fHi x3) (fLo x3)) (Scalar.ofBits .f32 0x00000000#32) := by
  have z3 : (![0, 0, 0] : Fin 3 → ℕ) = fun _ => 0 := by decide
  have z2 : (![0, 0] : Fin 2 → ℕ) = fun _ => 0 := by decide
  have h1 : (View.readAt (Elt F) arg3.view (Rect.unit (s := S1x128x2048) ![0, 0, 0] S1x128x2048.size inb_S1x128x2048_S1x128x2048_0_0_0).toLoadRect (harg3.unread x1)) = x1 := by
    rw [View.readAt_eq_ld, Memref.IsWhole.read_unread]; exact View.ld_unit_zero z3 _ _
  have h3 : (View.readAt (Elt F) arg5.view (Rect.unit (s := S1x128x2048) ![0, 0, 0] S1x128x2048.size inb_S1x128x2048_S1x128x2048_0_0_0).toLoadRect (harg5.unread x3)) = x3 := by
    rw [View.readAt_eq_ld, Memref.IsWhole.read_unread]; exact View.ld_unit_zero z3 _ _
  have e1 : halfOf x0 x1 (fSq x1) (fHi x1) (fLo x1) = halfOf x0 x1 (fSq (View.readAt (Elt F) arg3.view (Rect.unit (s := S1x128x2048) ![0, 0, 0] S1x128x2048.size inb_S1x128x2048_S1x128x2048_0_0_0).toLoadRect (harg3.unread x1))) (fHi (View.readAt (Elt F) arg3.view (Rect.unit (s := S1x128x2048) ![0, 0, 0] S1x128x2048.size inb_S1x128x2048_S1x128x2048_0_0_0).toLoadRect (harg3.unread x1))) (fLo (View.readAt (Elt F) arg3.view (Rect.unit (s := S1x128x2048) ![0, 0, 0] S1x128x2048.size inb_S1x128x2048_S1x128x2048_0_0_0).toLoadRect (harg3.unread x1))) := by rw [h1]
  have e3 : halfOf x2 x3 (fSq x3) (fHi x3) (fLo x3) = halfOf x2 x3 (fSq (View.readAt (Elt F) arg5.view (Rect.unit (s := S1x128x2048) ![0, 0, 0] S1x128x2048.size inb_S1x128x2048_S1x128x2048_0_0_0).toLoadRect (harg5.unread x3))) (fHi (View.readAt (Elt F) arg5.view (Rect.unit (s := S1x128x2048) ![0, 0, 0] S1x128x2048.size inb_S1x128x2048_S1x128x2048_0_0_0).toLoadRect (harg5.unread x3))) (fLo (View.readAt (Elt F) arg5.view (Rect.unit (s := S1x128x2048) ![0, 0, 0] S1x128x2048.size inb_S1x128x2048_S1x128x2048_0_0_0).toLoadRect (harg5.unread x3))) := by rw [h3]
  rw [e1, e3, ← half_cov harg2 harg3 arg11 arg7 arg8, ← half_cov harg4 harg5 arg12 arg9 arg10]
  unfold sout0_A_6
  rw [View.read_writes_junk_eq_canon]
  unfold kernelRun0_A
  dsimp only
  refine (View.canon_cons_unit_zero z2 _ _ _).trans ?_
  sl_kernel_rfl

/-- What the first point of a cloud leaves in scratch 0. -/
theorem sout_A_0 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3  = fHi x1 := by
  have z3 : (![0, 0, 0] : Fin 3 → ℕ) = fun _ => 0 := by decide
  have z2 : (![0, 0] : Fin 2 → ℕ) = fun _ => 0 := by decide
  have h1 : (View.readAt (Elt F) arg3.view (Rect.unit (s := S1x128x2048) ![0, 0, 0] S1x128x2048.size inb_S1x128x2048_S1x128x2048_0_0_0).toLoadRect (harg3.unread x1)) = x1 := by
    rw [View.readAt_eq_ld, Memref.IsWhole.read_unread]; exact View.ld_unit_zero z3 _ _
  have e : fHi x1 = fHi (View.readAt (Elt F) arg3.view (Rect.unit (s := S1x128x2048) ![0, 0, 0] S1x128x2048.size inb_S1x128x2048_S1x128x2048_0_0_0).toLoadRect (harg3.unread x1)) := by rw [h1]
  rw [e]
  unfold sout0_A_0
  rw [View.read_writes_junk_eq_canon]
  unfold kernelRun0_A
  dsimp only
  refine (View.canon_unit_zero z2 _ _).trans ?_
  sl_kernel_rfl

/-- What the first point of a cloud leaves in scratch 1. -/
theorem sout_A_1 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3  = fLo x1 := by
  have z3 : (![0, 0, 0] : Fin 3 → ℕ) = fun _ => 0 := by decide
  have z2 : (![0, 0] : Fin 2 → ℕ) = fun _ => 0 := by decide
  have h1 : (View.readAt (Elt F) arg3.view (Rect.unit (s := S1x128x2048) ![0, 0, 0] S1x128x2048.size inb_S1x128x2048_S1x128x2048_0_0_0).toLoadRect (harg3.unread x1)) = x1 := by
    rw [View.readAt_eq_ld, Memref.IsWhole.read_unread]; exact View.ld_unit_zero z3 _ _
  have e : fLo x1 = fLo (View.readAt (Elt F) arg3.view (Rect.unit (s := S1x128x2048) ![0, 0, 0] S1x128x2048.size inb_S1x128x2048_S1x128x2048_0_0_0).toLoadRect (harg3.unread x1)) := by rw [h1]
  rw [e]
  unfold sout0_A_1
  rw [View.read_writes_junk_eq_canon]
  unfold kernelRun0_A
  dsimp only
  refine (View.canon_unit_zero z2 _ _).trans ?_
  sl_kernel_rfl

/-- What the first point of a cloud leaves in scratch 2. -/
theorem sout_A_2 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3  = fHi x3 := by
  have z3 : (![0, 0, 0] : Fin 3 → ℕ) = fun _ => 0 := by decide
  have z2 : (![0, 0] : Fin 2 → ℕ) = fun _ => 0 := by decide
  have h1 : (View.readAt (Elt F) arg5.view (Rect.unit (s := S1x128x2048) ![0, 0, 0] S1x128x2048.size inb_S1x128x2048_S1x128x2048_0_0_0).toLoadRect (harg5.unread x3)) = x3 := by
    rw [View.readAt_eq_ld, Memref.IsWhole.read_unread]; exact View.ld_unit_zero z3 _ _
  have e : fHi x3 = fHi (View.readAt (Elt F) arg5.view (Rect.unit (s := S1x128x2048) ![0, 0, 0] S1x128x2048.size inb_S1x128x2048_S1x128x2048_0_0_0).toLoadRect (harg5.unread x3)) := by rw [h1]
  rw [e]
  unfold sout0_A_2
  rw [View.read_writes_junk_eq_canon]
  unfold kernelRun0_A
  dsimp only
  refine (View.canon_unit_zero z2 _ _).trans ?_
  sl_kernel_rfl

/-- What the first point of a cloud leaves in scratch 3. -/
theorem sout_A_3 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3  = fLo x3 := by
  have z3 : (![0, 0, 0] : Fin 3 → ℕ) = fun _ => 0 := by decide
  have z2 : (![0, 0] : Fin 2 → ℕ) = fun _ => 0 := by decide
  have h1 : (View.readAt (Elt F) arg5.view (Rect.unit (s := S1x128x2048) ![0, 0, 0] S1x128x2048.size inb_S1x128x2048_S1x128x2048_0_0_0).toLoadRect (harg5.unread x3)) = x3 := by
    rw [View.readAt_eq_ld, Memref.IsWhole.read_unread]; exact View.ld_unit_zero z3 _ _
  have e : fLo x3 = fLo (View.readAt (Elt F) arg5.view (Rect.unit (s := S1x128x2048) ![0, 0, 0] S1x128x2048.size inb_S1x128x2048_S1x128x2048_0_0_0).toLoadRect (harg5.unread x3)) := by rw [h1]
  rw [e]
  unfold sout0_A_3
  rw [View.read_writes_junk_eq_canon]
  unfold kernelRun0_A
  dsimp only
  refine (View.canon_unit_zero z2 _ _).trans ?_
  sl_kernel_rfl

/-- What the first point of a cloud leaves in scratch 4. -/
theorem sout_A_4 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3  = fSq x1 := by
  have z3 : (![0, 0, 0] : Fin 3 → ℕ) = fun _ => 0 := by decide
  have z2 : (![0, 0] : Fin 2 → ℕ) = fun _ => 0 := by decide
  have h1 : (View.readAt (Elt F) arg3.view (Rect.unit (s := S1x128x2048) ![0, 0, 0] S1x128x2048.size inb_S1x128x2048_S1x128x2048_0_0_0).toLoadRect (harg3.unread x1)) = x1 := by
    rw [View.readAt_eq_ld, Memref.IsWhole.read_unread]; exact View.ld_unit_zero z3 _ _
  have e : fSq x1 = fSq (View.readAt (Elt F) arg3.view (Rect.unit (s := S1x128x2048) ![0, 0, 0] S1x128x2048.size inb_S1x128x2048_S1x128x2048_0_0_0).toLoadRect (harg3.unread x1)) := by rw [h1]
  rw [e]
  unfold sout0_A_4
  rw [View.read_writes_junk_eq_canon]
  unfold kernelRun0_A
  dsimp only
  refine (View.canon_unit_zero z2 _ _).trans ?_
  sl_kernel_rfl

/-- What the first point of a cloud leaves in scratch 5. -/
theorem sout_A_5 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : cond0_0 i) (hc1 : ¬cond0_1 i)
    (x0 : Vec F S1x512x128 .f32) (x1 : Vec F S1x128x2048 .f32) (x2 : Vec F S1x512x128 .f32) (x3 : Vec F S1x128x2048 .f32)  :
    sout0_A_5 c i arg2 harg2 arg3 harg3 arg4 harg4 arg5 harg5 arg6 harg6 arg7 harg7 arg8 harg8 arg9 harg9 arg10 harg10 arg11 harg11 arg12 harg12 arg13 harg13 hc0 hc1 x0 x1 x2 x3  = fSq x3 := by
  have z3 : (![0, 0, 0] : Fin 3 → ℕ) = fun _ => 0 := by decide
  have z2 : (![0, 0] : Fin 2 → ℕ) = fun _ => 0 := by decide
  have h1 : (View.readAt (Elt F) arg5.view (Rect.unit (s := S1x128x2048) ![0, 0, 0] S1x128x2048.size inb_S1x128x2048_S1x128x2048_0_0_0).toLoadRect (harg5.unread x3)) = x3 := by
    rw [View.readAt_eq_ld, Memref.IsWhole.read_unread]; exact View.ld_unit_zero z3 _ _
  have e : fSq x3 = fSq (View.readAt (Elt F) arg5.view (Rect.unit (s := S1x128x2048) ![0, 0, 0] S1x128x2048.size inb_S1x128x2048_S1x128x2048_0_0_0).toLoadRect (harg5.unread x3)) := by rw [h1]
  rw [e]
  unfold sout0_A_5
  rw [View.read_writes_junk_eq_canon]
  unfold kernelRun0_A
  dsimp only
  refine (View.canon_unit_zero z2 _ _).trans ?_
  sl_kernel_rfl

/-- What the last point of a cloud writes to the output: the sum it leaves, in every place. -/
theorem out_C_4 (c : Dev nD) (i : grid0.Coords) (arg2 : Memref sig .tc .vmem S1x512x128 .f32) (harg2 : arg2.IsWhole) (arg3 : Memref sig .tc .vmem S1x128x2048 .f32) (harg3 : arg3.IsWhole) (arg4 : Memref sig .tc .vmem S1x512x128 .f32) (harg4 : arg4.IsWhole) (arg5 : Memref sig .tc .vmem S1x128x2048 .f32) (harg5 : arg5.IsWhole) (arg6 : Memref sig .tc .vmem S1x1x128 .f32) (harg6 : arg6.IsWhole) (arg7 : Memref sig .tc .vmem S2048x16 .bf16) (harg7 : arg7.IsWhole) (arg8 : Memref sig .tc .vmem S2048x16 .bf16) (harg8 : arg8.IsWhole) (arg9 : Memref sig .tc .vmem S2048x16 .bf16) (harg9 : arg9.IsWhole) (arg10 : Memref sig .tc .vmem S2048x16 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .smem S1x1 .f32) (harg13 : arg13.IsWhole) (hc0 : ¬cond0_0 i) (hc1 : cond0_1 i)
    (x0 : Vec F S1x512x128 .f32) (x1 : Vec F S1x128x2048 .f32) (x2 : Vec F S1x512x128 .f32) (x3 : Vec F S1x128x2048 .f32) (xs0 : Vec F S2048x16 .bf16) (xs1 : Vec F S2048x16 .bf16) (xs2 : Vec F S2048x16 .bf16) (xs3 : Vec F S2048x16 .bf16) (xs4 : Vec F S1x2048 .f32) (xs5 : Vec F S1x2048 .f32) (xs6 : Vec F S1x1 .f32) :
    out0_C_4 c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 = fun _ => stepAcc (halfOf x0 x1 xs4 xs0 xs1) (halfOf x2 x3 xs5 xs2 xs3) (xs6 (Shape.Idx.first (show 0 < S1x1.numel by decide))) := by
  have z3 : (![0, 0, 0] : Fin 3 → ℕ) = fun _ => 0 := by decide
  have z2 : (![0, 0] : Fin 2 → ℕ) = fun _ => 0 := by decide
  rw [← half_read harg2 harg3 harg11 harg7 harg8 x0 x1 xs4 xs0 xs1, ← half_read harg4 harg5 harg12 harg9 harg10 x2 x3 xs5 xs2 xs3]
  have e : xs6 (Shape.Idx.first (show 0 < S1x1.numel by decide)) = View.readAt (Elt F) arg13.view (Rect.unit (s := S1x1) ![0, 0] ![1, 1] inb_S1x1_S1x1_0_0).toLoadRect (harg13.unread xs6) (Shape.Idx.first (show 0 < S1x1.numel by decide)) := by
    rw [View.readAt_eq_ld, Memref.IsWhole.read_unread]
    exact (congrFun (View.ld_unit_zero z2 _ xs6) _).symm
  rw [e]
  refine (?_ : _ = fun _ => _).trans rfl
  unfold out0_C_4
  rw [View.read_writes_junk_eq_canon]
  unfold kernelRun0_C
  dsimp only
  refine (View.canon_unit_zero z3 _ _).trans ?_
  sl_kernel_rfl

end Cert.Nearest

end
-- ==== Proof.KFold.lean ====
/- The sum that the four row blocks of a cloud leave, and the array of the sums. -/
module

public import proofs.«01_k».proof.Proof.KFirst
public import Idealize.ShloMosaic.Lib.ValueIdx

@[expose] public section

set_option maxRecDepth 16384

noncomputable section

namespace Cert.Nearest

open Idealize.ShloMosaic Idealize.ShloMosaic.TcCoe Idealize.SL.Sem Cert.KernelIdeal Cert.KernelIdeal.Gen
open Idealize.ShloMosaic.Pipeline (Dat Cfg Window cellOf)

variable {F : FTy → Type} [FloatOps F] [Named F]
variable (m : (ℓ : Loc nD τ sig) → Buf (Elt F) ℓ)

/-- Where the windows stand: row block `t % 4` of cloud `t / 4` and of cloud `t / 4 + 4`. -/
theorem stands : ∀ t : Fin cfg0.N, (win0_0.index t = ![t.val / 4, t.val % 4, 0] ∧ win0_1.index t = ![t.val / 4, 0, 0])
    ∧ (win0_2.index t = ![t.val / 4 + 4, t.val % 4, 0] ∧ win0_3.index t = ![t.val / 4 + 4, 0, 0]) ∧ win0_4.index t = ![t.val / 4, 0, 0] :=
  (by decide +kernel : ∀ t : Fin grid0.N, _)

/-- The grid has sixteen points. -/
theorem tlt (t : Fin cfg0.N) : t.val < 16 := lt_of_lt_of_eq t.isLt N_0

/-- The rows of array `main_v2` that a point reads of cloud `b`. -/
def rowsAt (c : Dev nD) (b : Fin 8) (r : Fin 4) : Vec F S1x512x128 .f32 := fun y =>
  V m c main_v2 (ix3 b (⟨r.val * 512 + (y 1).val, by have := (y 1).isLt; have h : (y 1).val < 512 := this; omega⟩ : Fin 2048) (⟨(y 2).val, (y 2).isLt⟩ : Fin 128))

/-- The transposed cloud `b` that a point reads of array `main_v3`. -/
def cloudAt (c : Dev nD) (b : Fin 8) : Vec F S1x128x2048 .f32 := fun y =>
  V m c main_v3 (ix3 b (⟨(y 1).val, (y 1).isLt⟩ : Fin 128) (⟨(y 2).val, (y 2).isLt⟩ : Fin 2048))

/-- The cloud of the first argument that a grid point works on. -/
def bp (t : Fin cfg0.N) : Fin 8 := ⟨t.val / 4, by have := tlt t; omega⟩
/-- The cloud of the second argument that a grid point works on. -/
def bg (t : Fin cfg0.N) : Fin 8 := ⟨t.val / 4 + 4, by have := tlt t; omega⟩
/-- The block of 512 rows that a grid point works on. -/
def rb (t : Fin cfg0.N) : Fin 4 := ⟨t.val % 4, by omega⟩

/-- The first window's block: 512 rows of the first cloud. -/
theorem iblk0 (c : Dev nD) (t : Fin cfg0.N) : iblk m c 0 t = rowsAt m c (bp t) (rb t) := by
  funext y
  have e := (stands t).1.1
  have e0 : win0_0.index t (0 : Fin 3) = t.val / 4 := congrFun e 0
  have e1 : win0_0.index t (1 : Fin 3) = t.val % 4 := congrFun e 1
  have e2 : win0_0.index t (2 : Fin 3) = 0 := congrFun e 2
  show V m c main_v2 (((cfg0.win 0).blk t).view.emb y) = V m c main_v2 _
  refine congrArg (V m c main_v2) (funext fun a => Fin.ext ?_)
  have hy0 : (y 0).val < 1 := (y 0).isLt
  match a with
  | ⟨0, _⟩ => show win0_0.index t (0 : Fin 3) * 1 + 1 * (y 0).val = t.val / 4; omega
  | ⟨1, _⟩ => show win0_0.index t (1 : Fin 3) * 512 + 1 * (y 1).val = t.val % 4 * 512 + (y 1).val; omega
  | ⟨2, _⟩ => show win0_0.index t (2 : Fin 3) * 128 + 1 * (y 2).val = (y 2).val; omega

/-- The second window's block: the whole of the first cloud. -/
theorem iblk1 (c : Dev nD) (t : Fin cfg0.N) : iblk m c 1 t = cloudAt m c (bp t) := by
  funext y
  have e := (stands t).1.2
  have e0 : win0_1.index t (0 : Fin 3) = t.val / 4 := congrFun e 0
  have e1 : win0_1.index t (1 : Fin 3) = 0 := congrFun e 1
  have e2 : win0_1.index t (2 : Fin 3) = 0 := congrFun e 2
  show V m c main_v3 (((cfg0.win 1).blk t).view.emb y) = V m c main_v3 _
  refine congrArg (V m c main_v3) (funext fun a => Fin.ext ?_)
  have hy0 : (y 0).val < 1 := (y 0).isLt
  match a with
  | ⟨0, _⟩ => show win0_1.index t (0 : Fin 3) * 1 + 1 * (y 0).val = t.val / 4; omega
  | ⟨1, _⟩ => show win0_1.index t (1 : Fin 3) * 128 + 1 * (y 1).val = (y 1).val; omega
  | ⟨2, _⟩ => show win0_1.index t (2 : Fin 3) * 2048 + 1 * (y 2).val = (y 2).val; omega

/-- The third window's block: 512 rows of the second cloud. -/
theorem iblk2 (c : Dev nD) (t : Fin cfg0.N) : iblk m c 2 t = rowsAt m c (bg t) (rb t) := by
  funext y
  have e := (stands t).2.1.1
  have e0 : win0_2.index t (0 : Fin 3) = t.val / 4 + 4 := congrFun e 0
  have e1 : win0_2.index t (1 : Fin 3) = t.val % 4 := congrFun e 1
  have e2 : win0_2.index t (2 : Fin 3) = 0 := congrFun e 2
  show V m c main_v2 (((cfg0.win 2).blk t).view.emb y) = V m c main_v2 _
  refine congrArg (V m c main_v2) (funext fun a => Fin.ext ?_)
  have hy0 : (y 0).val < 1 := (y 0).isLt
  match a with
  | ⟨0, _⟩ => show win0_2.index t (0 : Fin 3) * 1 + 1 * (y 0).val = t.val / 4 + 4; omega
  | ⟨1, _⟩ => show win0_2.index t (1 : Fin 3) * 512 + 1 * (y 1).val = t.val % 4 * 512 + (y 1).val; omega
  | ⟨2, _⟩ => show win0_2.index t (2 : Fin 3) * 128 + 1 * (y 2).val = (y 2).val; omega

/-- The fourth window's block: the whole of the second cloud. -/
theorem iblk3 (c : Dev nD) (t : Fin cfg0.N) : iblk m c 3 t = cloudAt m c (bg t) := by
  funext y
  have e := (stands t).2.1.2
  have e0 : win0_3.index t (0 : Fin 3) = t.val / 4 + 4 := congrFun e 0
  have e1 : win0_3.index t (1 : Fin 3) = 0 := congrFun e 1
  have e2 : win0_3.index t (2 : Fin 3) = 0 := congrFun e 2
  show V m c main_v3 (((cfg0.win 3).blk t).view.emb y) = V m c main_v3 _
  refine congrArg (V m c main_v3) (funext fun a => Fin.ext ?_)
  have hy0 : (y 0).val < 1 := (y 0).isLt
  match a with
  | ⟨0, _⟩ => show win0_3.index t (0 : Fin 3) * 1 + 1 * (y 0).val = t.val / 4 + 4; omega
  | ⟨1, _⟩ => show win0_3.index t (1 : Fin 3) * 128 + 1 * (y 1).val = (y 1).val; omega
  | ⟨2, _⟩ => show win0_3.index t (2 : Fin 3) * 2048 + 1 * (y 2).val = (y 2).val; omega

/-- What row block `r` of cloud `b` works on. -/
def halfAt (c : Dev nD) (b : Fin 8) (r : Fin 4) : Half F :=
  halfOf (rowsAt m c b r) (cloudAt m c b) (fSq (cloudAt m c b)) (fHi (cloudAt m c b)) (fLo (cloudAt m c b))

/-- One row block's step of the sum, pair `b` of clouds. -/
def blockAcc (c : Dev nD) (b : Fin 4) (r : Fin 4) (acc : F .f32) : F .f32 :=
  stepAcc (halfAt m c ⟨b.val, by omega⟩ r) (halfAt m c ⟨b.val + 4, by omega⟩ r) acc

/-- The sum after row blocks `0 … r` of pair `b`. -/
def sumTo (c : Dev nD) (b : Fin 4) : (r : ℕ) → r < 4 → F .f32
  | 0, h => blockAcc m c b ⟨0, h⟩ (Scalar.ofBits .f32 0x00000000#32)
  | r + 1, h => blockAcc m c b ⟨r + 1, h⟩ (sumTo c b r (by omega))

/-- The pair of clouds that a grid point works on, from its number. -/
def pr (n : ℕ) (h : n < cfg0.N) : Fin 4 := ⟨n / 4, by have := tlt ⟨n, h⟩; have h' : n < 16 := this; omega⟩

/-- A grid point's step of the accumulator, by its two halves. -/
theorem blockAcc_at (c : Dev nD) (t : Fin cfg0.N) (acc : F .f32) :
    stepAcc (halfAt m c (bp t) (rb t)) (halfAt m c (bg t) (rb t)) acc = blockAcc m c (pr t.val t.isLt) (rb t) acc := rfl

/-- What a point leaves in the scratch. -/
theorem carried (c : Dev nD) : ∀ (n : ℕ) (h : n < cfg0.N),
    (outsAt0 m c n h).2 = (fHi (cloudAt m c (bp ⟨n, h⟩)), fLo (cloudAt m c (bp ⟨n, h⟩)), fHi (cloudAt m c (bg ⟨n, h⟩)), fLo (cloudAt m c (bg ⟨n, h⟩)),
      fSq (cloudAt m c (bp ⟨n, h⟩)), fSq (cloudAt m c (bg ⟨n, h⟩)), fun _ => sumTo m c (pr n h) (n % 4) (by omega)) := by
  intro n
  induction n with
  | zero =>
    intro h
    rw [outsAt0_A m c ⟨0, h⟩ (by norm_num) (by norm_num)]
    simp only [sout_A_0, sout_A_1, sout_A_2, sout_A_3, sout_A_4, sout_A_5, sout_A_6, iblk0, iblk1, iblk2, iblk3]
    rfl
  | succ n ih =>
    intro h
    have hb (hm : ¬(n + 1) % 4 = 0) : bp ⟨n + 1, h⟩ = bp ⟨n, Nat.lt_of_succ_lt h⟩ := Fin.ext (by show (n + 1) / 4 = n / 4; omega)
    have hg (hm : ¬(n + 1) % 4 = 0) : bg ⟨n + 1, h⟩ = bg ⟨n, Nat.lt_of_succ_lt h⟩ := Fin.ext (by show (n + 1) / 4 + 4 = n / 4 + 4; omega)
    have hs (hm : ¬(n + 1) % 4 = 0) : sumTo m c (pr (n + 1) h) ((n + 1) % 4) (by omega)
        = blockAcc m c (pr (n + 1) h) (rb ⟨n + 1, h⟩) (sumTo m c (pr n (Nat.lt_of_succ_lt h)) (n % 4) (by omega)) := by
      have hr : (n + 1) % 4 = n % 4 + 1 := by omega
      have hp : pr n (Nat.lt_of_succ_lt h) = pr (n + 1) h := Fin.ext (by show n / 4 = (n + 1) / 4; omega)
      have key : ∀ (k : ℕ) (hk : k < 4) (hk' : k = n % 4 + 1), sumTo m c (pr (n + 1) h) k hk
          = blockAcc m c (pr (n + 1) h) ⟨k, hk⟩ (sumTo m c (pr (n + 1) h) (n % 4) (by omega)) := by
        rintro k hk rfl; rfl
      rw [hp]; exact key _ _ hr
    have hi := ih (Nat.lt_of_succ_lt h)
    by_cases h0 : (n + 1) % 4 = 0
    · rw [outsAt0_A m c ⟨n + 1, h⟩ h0 (by show ¬(n + 1) % 4 = 3; omega)]
      simp only [sout_A_0, sout_A_1, sout_A_2, sout_A_3, sout_A_4, sout_A_5, sout_A_6, iblk0, iblk1, iblk2, iblk3]
      have hs0 : sumTo m c (pr (n + 1) h) ((n + 1) % 4) (by omega)
          = blockAcc m c (pr (n + 1) h) (rb ⟨n + 1, h⟩) (Scalar.ofBits .f32 0x00000000#32) := by
        have key : ∀ (k : ℕ) (hk : k < 4) (hk' : k = 0), sumTo m c (pr (n + 1) h) k hk
            = blockAcc m c (pr (n + 1) h) ⟨k, hk⟩ (Scalar.ofBits .f32 0x00000000#32) := by
          rintro k hk rfl; rfl
        exact key _ _ h0
      rw [hs0]; rfl
    · by_cases h1 : (n + 1) % 4 = 3
      · rw [outsAt0_C m c ⟨n + 1, h⟩ h0 h1]
        simp only [sout_C, iblk0, iblk1, iblk2, iblk3]
        simp only [sout0_C_0, sout0_C_1, sout0_C_2, sout0_C_3, sout0_C_4, sout0_C_5]
        have e : n + 1 - 1 = n := rfl
        simp only [e]
        rw [hs h0, hi, ← hb h0, ← hg h0]
        rfl
      · rw [outsAt0_B m c ⟨n + 1, h⟩ h0 h1]
        simp only [sout_B, iblk0, iblk1, iblk2, iblk3]
        simp only [sout0_B_0, sout0_B_1, sout0_B_2, sout0_B_3, sout0_B_4, sout0_B_5]
        have e : n + 1 - 1 = n := rfl
        simp only [e]
        rw [hs h0, hi, ← hb h0, ← hg h0]
        rfl

/-- The output's block at the last point of a pair of clouds is the sum in every place. -/
theorem out_last (c : Dev nD) (n : ℕ) (h : n + 1 < cfg0.N) (h1 : (n + 1) % 4 = 3) :
    (outsAt0 m c (n + 1) h).1 = fun _ => sumTo m c (pr (n + 1) h) 3 (by omega) := by
  have e := congrArg (fun s => s.2.2.2.2.2.2) (carried m c (n + 1) h)
  have key : ∀ (k : ℕ) (hk : k < 4) (hk' : k = 3), sumTo m c (pr (n + 1) h) k hk = sumTo m c (pr (n + 1) h) 3 (by omega) := by
    rintro k hk rfl; rfl
  have e' : (outsAt0 m c (n + 1) h).2.2.2.2.2.2.2 = fun _ => sumTo m c (pr (n + 1) h) 3 (by omega) := by
    rw [← key _ _ h1]; exact e
  rw [outsAt0_C m c ⟨n + 1, h⟩ (by show ¬(n + 1) % 4 = 0; omega) h1] at e' ⊢
  simp only [sout_C, out_C_4] at e' ⊢
  funext y
  exact congrFun e' (Shape.Idx.first (show 0 < S1x1.numel by decide))

/-- The array of the sums: pair `b`'s in every place of row `b`. -/
def sums (c : Dev nD) : Buf (Elt F) ((c : Thread nD τ).loc main_v4) := fun i => sumTo m c (⟨(i 0).val, (i 0).isLt⟩ : Fin 4) 3 (by omega)

/-- A pair's last point writes its sum back. -/
theorem flushed_sums (c : Dev nD) (t : Fin cfg0.N) (hf : (cfg0.win 4).flush t = true) :
    (dats m 0 c).flushed 4 t = ((cfg0.win 4).blk t).view.read (Elt F) (sums m c) := by
  show (cfg0.win 4).cut (grid0.coords t) ((dats m 0 c).after 4 t) = _
  rw [after0_4]
  have hm : t.val % 4 = 3 := (flush0_4 t).mp hf
  obtain ⟨n, hn⟩ := t
  cases n with
  | zero => exact absurd hm (by norm_num)
  | succ n =>
    have e : (outsAt0 m c (n + 1) hn).1 = _ := out_last m c n hn hm
    rw [e]
    funext y
    have e0 : win0_4.index ⟨n + 1, hn⟩ (0 : Fin 3) = (n + 1) / 4 := congrFun (stands ⟨n + 1, hn⟩).2.2 0
    have hy0 : (y 0).val < 1 := (y 0).isLt
    show sumTo m c (pr (n + 1) hn) 3 _ = sumTo m c (⟨(((cfg0.win 4).blk ⟨n + 1, hn⟩).view.emb y 0).val, _⟩ : Fin 4) 3 _
    refine congrArg (fun b => sumTo m c b 3 (by omega)) (Fin.ext ?_)
    show (n + 1) / 4 = win0_4.index ⟨n + 1, hn⟩ (0 : Fin 3) * 1 + 1 * (y 0).val
    omega

/-- Every row of the array is some last point's block. -/
theorem rows_written (i : S4x1x128.Idx) : ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 128 := (i 2).isLt
  have hN : 4 * (i 0).val + 3 < cfg0.N := lt_of_lt_of_eq (by omega) N_0.symm
  refine ⟨⟨4 * (i 0).val + 3, hN⟩, (flush0_4 _).mpr (by show (4 * (i 0).val + 3) % 4 = 3; omega), ?_⟩
  have e := (stands ⟨4 * (i 0).val + 3, hN⟩).2.2
  have e0 : win0_4.index ⟨4 * (i 0).val + 3, hN⟩ (0 : Fin 3) = (4 * (i 0).val + 3) / 4 := congrFun e 0
  have e1 : win0_4.index ⟨4 * (i 0).val + 3, hN⟩ (1 : Fin 3) = 0 := congrFun e 1
  have e2 : win0_4.index ⟨4 * (i 0).val + 3, hN⟩ (2 : Fin 3) = 0 := congrFun e 2
  show i ∈ ((View.whole main_v4).slice (win0_4.rect ⟨4 * (i 0).val + 3, hN⟩)).set
  rw [View.set_slice_whole, Rect.mem_set_unit]
  intro a
  match a with
  | ⟨0, _⟩ => show win0_4.index ⟨4 * (i 0).val + 3, hN⟩ (0 : Fin 3) * 1 ≤ (i 0).val ∧ (i 0).val < win0_4.index ⟨4 * (i 0).val + 3, hN⟩ (0 : Fin 3) * 1 + 1; omega
  | ⟨1, _⟩ => show win0_4.index ⟨4 * (i 0).val + 3, hN⟩ (1 : Fin 3) * 1 ≤ (i 1).val ∧ (i 1).val < win0_4.index ⟨4 * (i 0).val + 3, hN⟩ (1 : Fin 3) * 1 + 1; omega
  | ⟨2, _⟩ => show win0_4.index ⟨4 * (i 0).val + 3, hN⟩ (2 : Fin 3) * 128 ≤ (i 2).val ∧ (i 2).val < win0_4.index ⟨4 * (i 0).val + 3, hN⟩ (2 : Fin 3) * 128 + 128; omega

/-- The array of the sums after the run. -/
theorem final_sums (c : Dev nD) : (dats m 0 c).arrAt 4 cfg0.N = sums m c :=
  (dats m 0 c).arrAt_eq_of_cover 4 _ (flushed_sums m c) (fun i => rows_written i)

end Cert.Nearest

end
-- ==== Proof.KHalf.lean ====
/- What one half of a grid point reads, over the extended reals, when the cloud is a cloud of real points. -/
module

public import proofs.«01_k».proof.Proof.KPickVal
public import proofs.«01_k».proof.Proof.KEig
public import proofs.«01_k».proof.Proof.KFold

@[expose] public section

set_option maxRecDepth 16384

noncomputable section

namespace Cert.Nearest

open Idealize.ShloMosaic Cert.KernelIdeal Cert.KernelIdeal.Gen

/-- A cloud of real points. -/
abbrev Cloud := Fin 2048 → Fin 3 → ℝ

/-- A cloud padded with zeros to 128 coordinates. -/
def padded (P : Cloud) (l : Fin 128) (n : Fin 2048) : EReal := if h : l.val < 3 then ((P n ⟨l.val, h⟩ : ℝ) : EReal) else 0

/-- The inner product of two points. -/
def dot (P : Cloud) (n m : Fin 2048) : ℝ := P n 0 * P m 0 + P n 1 * P m 1 + P n 2 * P m 2

/-- The half distance that the kernel ranks by: half the squared norm less the inner product with the row's point. -/
def rank (P : Cloud) (n m : Fin 2048) : ℝ := 1 / 2 * dot P m m - dot P n m

/-- The features of a point. -/
def feat (P : Cloud) (j : Fin 2048) : Fin 16 → ℝ :=
  ![P j 0, P j 1, P j 2, P j 0 * P j 0, P j 1 * P j 1, P j 2 * P j 2, P j 0 * P j 1, P j 0 * P j 2, P j 1 * P j 2, 1, 0, 0, 0, 0, 0, 0]

/-- The padding adds nothing to an inner product. -/
theorem sum_padded (P : Cloud) (n m : Fin 2048) : ∑ l : Fin 128, padded P l n * padded P l m = ((dot P n m : ℝ) : EReal) := by
  rw [show (∑ l : Fin 128, padded P l n * padded P l m) = ∑ l : Fin (3 + 125), padded P l n * padded P l m from rfl, Fin.sum_univ_add,
    Finset.sum_eq_zero (s := Finset.univ (α := Fin 125)) fun i _ => ?_, add_zero, Fin.sum_univ_three]
  · show ((P n 0 : ℝ) : EReal) * (P m 0 : ℝ) + ((P n 1 : ℝ) : EReal) * (P m 1 : ℝ) + ((P n 2 : ℝ) : EReal) * (P m 2 : ℝ) = _
    unfold dot
    push_cast
    rfl
  · have : padded P (Fin.natAdd 3 i) n = 0 := dif_neg (by simp)
    rw [this, zero_mul]

variable {rows : Vec Ideal S1x512x128 .f32} {cloud : Vec Ideal S1x128x2048 .f32} {P : Cloud} {row : Fin 512 → Fin 2048}

/-- The literal one half. -/
theorem ofBits_half : Ideal.ofBits .f32 0x3F000000#32 = ((1 / 2 : ℝ) : EReal) := by
  simp [Ideal.ofBits, Ideal.ieee, -EReal.coe_mul]; norm_num

/-- The half squared norms. -/
theorem fSq_at (hc : ∀ l n, cloud (ix3 0 l n) = padded P l n) (n : Fin 2048) :
    fSq cloud (ix2 0 n) = ((1 / 2 * dot P n n : ℝ) : EReal) := by
  unfold fSq
  pointwise [k0_pay14, k0_pay3]
  simp only [hc]
  rw [sum_padded, show (1056964608#32 : BitVec 32) = 0x3F000000#32 from rfl, ofBits_half, ← EReal.coe_mul]

/-- The inner products. -/
theorem P0_at {h : Half Ideal} (hr : ∀ n l, h.rows (ix3 0 n l) = padded P l (row n)) (hc : ∀ l n, h.cloud (ix3 0 l n) = padded P l n)
    (n : Fin 512) (m : Fin 2048) : P0 h (ix2 n m) = ((dot P (row n) m : ℝ) : EReal) := by
  unfold P0
  pointwise [k0_pay16]
  simp only [hc, hr]
  rw [sum_padded]

/-- A chunk at a lane is the half squared norm less the inner product. -/
theorem chunks_sub (rows : Vec Ideal S1x512x128 .f32) (cloud : Vec Ideal S1x128x2048 .f32) (sq : Vec Ideal S1x2048 .f32)
    (fhi flo : Vec Ideal S2048x16 .bf16) (n : Fin 512) (k : Fin 16) (l : Fin 128) :
    chunks (halfOf rows cloud sq fhi flo) k (ix2 n l)
      = sq (ix2 0 (place k l)) - P0 (halfOf rows cloud sq fhi flo) (ix2 n (place k l)) := by
  unfold chunks
  generalize P0 (halfOf rows cloud sq fhi flo) = g
  unfold halfOf place
  obtain ⟨k, hk⟩ := k
  interval_cases k <;> simp only [Matrix.cons_val_zero', Fin.mk_one, Fin.zero_eta, Fin.reduceFinMk, Matrix.cons_val] <;> pointwise

/-- The features. -/
theorem fHi_at (hc : ∀ l n, cloud (ix3 0 l n) = padded P l n) (n : Fin 2048) (k : Fin 16) (hk : k.val < 10) :
    fHi cloud (ix2 n k) = ((feat P n k : ℝ) : EReal) := by
  unfold fHi
  obtain ⟨k, hk'⟩ := k
  have hk : k < 10 := hk
  interval_cases k <;> pointwise [k0_pay7, k0_pay6, k0_pay5, k0_pay3] <;> (try simp only [hc]) <;>
    first
    | rfl
    | exact (EReal.coe_mul _ _).symm
    | exact Ideal.ofBits_one_f32

/-- The rounding of the features leaves a difference of a number with itself. -/
theorem fLo_sub (x : Vec Ideal S1x128x2048 .f32) (n : Fin 2048) (k : Fin 16) :
    fLo x (ix2 n k) = fHi x (ix2 n k) - fHi x (ix2 n k) := by
  unfold fLo fHi k0_pay8 k0_pay7 k0_pay6
  generalize k0_pay5 x = f
  pointwise

/-- Over the extended reals nothing is left of the features. -/
theorem fLo_at (hc : ∀ l n, cloud (ix3 0 l n) = padded P l n) (n : Fin 2048) (k : Fin 16) (hk : k.val < 10) :
    fLo cloud (ix2 n k) = 0 := by
  rw [fLo_sub, fHi_at hc n k hk, ← EReal.coe_sub, sub_self, EReal.coe_zero]

/-- A finite sum of reals in the extended reals. -/
theorem coe_sum {ι : Type} (s : Finset ι) (f : ι → ℝ) : ∑ r ∈ s, ((f r : ℝ) : EReal) = ((∑ r ∈ s, f r : ℝ) : EReal) := by
  classical
  induction s using Finset.induction_on with
  | empty => simp
  | insert a s ha ih => rw [Finset.sum_insert ha, Finset.sum_insert ha, ih, EReal.coe_add]

/-- The mean of a coordinate over ten points. -/
def meanR (P : Cloud) (i : Fin 10 → Fin 2048) (a : Fin 3) : ℝ := (∑ r, P (i r) a) / 10

/-- The covariance of two coordinates over ten points. -/
def covR (P : Cloud) (i : Fin 10 → Fin 2048) (a b : Fin 3) : ℝ :=
  (∑ r, (P (i r) a - meanR P i a) * (P (i r) b - meanR P i b)) / 10

/-- The covariance matrix over ten points. -/
def symR (P : Cloud) (i : Fin 10 → Fin 2048) : Sym Ideal :=
  ⟨((covR P i 0 0 : ℝ) : EReal), ((covR P i 1 1 : ℝ) : EReal), ((covR P i 2 2 : ℝ) : EReal), ((covR P i 0 1 : ℝ) : EReal),
   ((covR P i 0 2 : ℝ) : EReal), ((covR P i 1 2 : ℝ) : EReal)⟩

/-- The covariance from the moments. -/
theorem covR_moments (P : Cloud) (i : Fin 10 → Fin 2048) (a b : Fin 3) :
    covR P i a b = (∑ r, P (i r) a * P (i r) b) * (1 / 10) - (∑ r, P (i r) a) * (1 / 10) * ((∑ r, P (i r) b) * (1 / 10)) := by
  unfold covR
  have : ∀ r, (P (i r) a - meanR P i a) * (P (i r) b - meanR P i b)
      = P (i r) a * P (i r) b - meanR P i a * P (i r) b - P (i r) a * meanR P i b + meanR P i a * meanR P i b := fun r => by ring
  rw [Finset.sum_congr rfl fun r _ => this r, Finset.sum_add_distrib, Finset.sum_sub_distrib, Finset.sum_sub_distrib, ← Finset.mul_sum,
    ← Finset.sum_mul, Finset.sum_const, Finset.card_univ, Fintype.card_fin, nsmul_eq_mul]
  unfold meanR
  push_cast
  ring

/-- The covariance that a half computes at a row whose ten nearest points are `i`. -/
theorem cov_at (hr : ∀ n l, rows (ix3 0 n l) = padded P l (row n)) (hc : ∀ l n, cloud (ix3 0 l n) = padded P l n) (n : Fin 512)
    (i : Fin 10 → Fin 2048) (hmono : StrictMono fun r => rank P (row n) (i r))
    (hout : ∀ m, (∀ r, m ≠ i r) → rank P (row n) (i 9) < rank P (row n) m)
    (hcrowd : ∀ r s t, r ≠ s → s ≠ t → r ≠ t → (i r).val % 128 = (i s).val % 128 → (i s).val % 128 ≠ (i t).val % 128) :
    covOf (fun k => picked (halfOf rows cloud (fSq cloud) (fHi cloud) (fLo cloud)) (ix2 k n)) = symR P i := by
  have hD : ∀ k l, chunks (halfOf rows cloud (fSq cloud) (fHi cloud) (fLo cloud)) k (ix2 n l)
      = (fun m => ((rank P (row n) m : ℝ) : EReal)) (place k l) := fun k l => by
    rw [chunks_sub, fSq_at hc, P0_at (row := row) hr hc, ← EReal.coe_sub]
    rfl
  have hs : ∀ k : Fin 16, k.val < 10 → picked (halfOf rows cloud (fSq cloud) (fHi cloud) (fLo cloud)) (ix2 k n)
      = ((∑ r, feat P (i r) k : ℝ) : EReal) := fun k hk => by
    rw [picked_at _ n (fun m => ((rank P (row n) m : ℝ) : EReal)) hD i (fun a b h => EReal.coe_lt_coe_iff.mpr (hmono h)) (fun m h => EReal.coe_lt_coe_iff.mpr (hout m h)) hcrowd k,
      ← coe_sum]
    show (∑ r, fHi cloud (ix2 (i r) k)) + (∑ r, fLo cloud (ix2 (i r) k)) = _
    rw [Finset.sum_congr rfl fun r _ => fHi_at hc (i r) k hk, Finset.sum_congr rfl fun r _ => fLo_at hc (i r) k hk,
      Finset.sum_const_zero, add_zero]
  rw [covOf_congr _ (fun k => ((∑ r, feat P (i r) k : ℝ) : EReal)) hs]
  have h9 : (∑ r, feat P (i r) 9) = 10 := by
    simp [feat]
  have c : (c1 : Ideal .f32) = (1 : EReal) := Ideal.ofBits_one_f32
  have hv : FloatOps.divf (F := Ideal) (φ := .f32) c1 ((∑ r, feat P (i r) 9 : ℝ) : EReal) = ((1 / 10 : ℝ) : EReal) := by
    rw [h9, c]
    show Ideal.div 1 _ = _
    rw [Ideal.div_coe (by norm_num), one_mul]
  have entry : ∀ (k x y : Fin 16) (a b : Fin 3), (∀ j, feat P j k = P j a * P j b) → (∀ j, feat P j x = P j a) →
      (∀ j, feat P j y = P j b) →
      FloatOps.subf (F := Ideal) (φ := .f32) (FloatOps.mulf (F := Ideal) (φ := .f32) ((∑ r, feat P (i r) k : ℝ) : EReal) ((1 / 10 : ℝ) : EReal))
        (FloatOps.mulf (F := Ideal) (φ := .f32) (FloatOps.mulf (F := Ideal) (φ := .f32) ((∑ r, feat P (i r) x : ℝ) : EReal) ((1 / 10 : ℝ) : EReal))
          (FloatOps.mulf (F := Ideal) (φ := .f32) ((∑ r, feat P (i r) y : ℝ) : EReal) ((1 / 10 : ℝ) : EReal)))
        = ((covR P i a b : ℝ) : EReal) := by
    intro k x y a b hk hx hy
    rw [covR_moments]
    simp only [hk, hx, hy]
    push_cast
    rfl
  unfold covOf symR
  simp only [hv]
  rw [Sym.mk.injEq]
  exact ⟨entry 3 0 0 0 0 (fun _ => rfl) (fun _ => rfl) (fun _ => rfl), entry 4 1 1 1 1 (fun _ => rfl) (fun _ => rfl) (fun _ => rfl),
    entry 5 2 2 2 2 (fun _ => rfl) (fun _ => rfl) (fun _ => rfl), entry 6 0 1 0 1 (fun _ => rfl) (fun _ => rfl) (fun _ => rfl),
    entry 7 0 2 0 2 (fun _ => rfl) (fun _ => rfl) (fun _ => rfl), entry 8 1 2 1 2 (fun _ => rfl) (fun _ => rfl) (fun _ => rfl)⟩

end Cert.Nearest
-- ==== Proof.KHost.lean ====
/- The host operations around the kernel's region: the padded clouds before it, the mean of the sums after it. -/
module

public import proofs.«01_k».proof.Proof.KFold
public import Idealize.ShloMosaic.Lib.Pipeline.FrameTail
public import Idealize.ShloMosaic.Lib.Pointwise

@[expose] public section

set_option maxRecDepth 16384

noncomputable section

namespace Cert.Nearest

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Coordinate `k` of point `n` of cloud `b` of the eight. -/
def coord (c : Dev nD) (b : Fin 8) (k : Fin 3) (n : Fin 2048) : EReal :=
  if h : b.val < 4 then m ((c : Thread nD τ).loc main_arg0) (ix3 (⟨b.val, h⟩ : Fin 4) k n)
  else m ((c : Thread nD τ).loc main_arg1) (ix3 (⟨b.val - 4, by omega⟩ : Fin 4) k n)

/-- The padded clouds as the host operations spell them. -/
theorem v2_spelled (c : Dev nD) : V (F := Ideal) m c main_v2
    = pad S8x2048x128 ![0, 0, 0] ![0, 0, 125] ![0, 0, 0]
        (transpose S8x2048x3 [0, 2, 1] (concatenate S8x3x2048 0 [⟨S4x3x2048, (m ((c : Thread nD τ).loc main_arg0) : Vec Ideal S4x3x2048 .f32)⟩, ⟨S4x3x2048, (m ((c : Thread nD τ).loc main_arg1) : Vec Ideal S4x3x2048 .f32)⟩] concatenates_S4x3x2048_S4x3x2048_S8x3x2048_d0) transposes_S8x3x2048_S8x2048x3_0_2_1)
        (sitofp (F := Ideal) .f32 (constantI S_ 32 0#32)) pads_S8x2048x3_S8x2048x128_000_000_01250 h_S_ := by
  show V0 m c (Proc.devRef .tc main_v2) = _
  unfold V0
  simp only [hostOps0, hostOps0_1, hostOps0_2, List.flatten_cons, List.flatten_nil, List.append_nil, List.cons_append, List.nil_append]
  after_results
  rfl

/-- The transposed array is the padded one transposed. -/
theorem v3_spelled (c : Dev nD) : V (F := Ideal) m c main_v3 = transpose S8x128x2048 [0, 2, 1] (V (F := Ideal) m c main_v2) transposes_S8x2048x128_S8x128x2048_0_2_1 := by
  rw [v2_spelled]
  show V0 m c (Proc.devRef .tc main_v3) = _
  unfold V0
  simp only [hostOps0, hostOps0_1, hostOps0_2, List.flatten_cons, List.flatten_nil, List.append_nil, List.cons_append, List.nil_append]
  after_results
  rfl

/-- The padded clouds, points as rows, at an index. -/
theorem v2_at (c : Dev nD) (b : Fin 8) (n : Fin 2048) (l : Fin 128) :
    V (F := Ideal) m c main_v2 (ix3 b n l) = if h : l.val < 3 then coord m c b ⟨l.val, h⟩ n else 0 := by
  rw [v2_spelled]
  unfold coord
  pointwise
  have z : (FloatOps.sitofp (F := Ideal) FTy.f32 (0#32) : EReal) = 0 := by
    show ((((0#32 : BitVec 32).toInt : ℤ) : ℝ) : EReal) = 0
    simp
  rw [z]

/-- The padded clouds, points as columns, at an index. -/
theorem v3_at (c : Dev nD) (b : Fin 8) (l : Fin 128) (n : Fin 2048) :
    V (F := Ideal) m c main_v3 (ix3 b l n) = if h : l.val < 3 then coord m c b ⟨l.val, h⟩ n else 0 := by
  rw [v3_spelled, ← v2_at]
  pointwise

/-- What the run leaves as the result: the sums' total times the literal `2⁻¹³`. -/
theorem result_spelled (c : Dev nD) : Pipeline.afterTail₀ cfgs (dats (F := Ideal) m) 0 (V0 m) [hostOps1] c main_v8
    = mulf (Host.reduceAdd (shapeCast S4 (extractStridedSlice S4x1x1 ![0, 0, 0] (sums (F := Ideal) m c) slices_S4x1x128_S4x1x1_0_0_0) shapeCasts_S4x1x1_S4)
        (constant (F := Ideal) S_ .f32 0x00000000#32) reducesTo_S4_S_d0 h_S_) (constant (F := Ideal) S_ .f32 0x39000000#32) := by
  have hw : Pipeline.withArrays (cfgs 0).spec c (V0 m c) (fun w => (dats (F := Ideal) m 0 c).arrAt w (cfgs 0).N) (Proc.devRef .tc main_v4) = sums (F := Ideal) m c :=
    (Pipeline.withArrays_arr_shared (cfgs 0).spec c (V0 m c) _ ((dats (F := Ideal) m 0 c).arrAt_sharedIn sharedIn0 (V0 m c) (A_eq m c) (cfgs 0).N) 4).trans (final_sums m c)
  unfold Pipeline.afterTail₀
  rw [← hw]
  simp only [hostOps1, List.flatten_cons, List.flatten_nil, List.append_nil, List.cons_append, List.nil_append]
  after_results
  rfl

/-- The result is the sum over the pairs of clouds, times the literal. -/
theorem result_at (c : Dev nD) (j : S_.Idx) : (Pipeline.afterTail₀ cfgs (dats (F := Ideal) m) 0 (V0 m) [hostOps1] c main_v8 : S_.Idx → EReal) j
    = (∑ b : Fin 4, (sumTo (F := Ideal) m c b 3 (by omega) : EReal)) * Ideal.ofBits .f32 0x39000000#32 := by
  rw [result_spelled]
  pointwise [sums]

end Cert.Nearest

end
-- ==== Proof.KSum.lean ====
/- The sum that the kernel forms, over the extended reals, when the clouds are clouds of real points and the ten nearest
   points of each point are told apart. -/
module

public import proofs.«01_k».proof.Proof.KHalf
public import proofs.«01_k».proof.Proof.KHost

@[expose] public section

set_option maxRecDepth 16384

noncomputable section

namespace Cert.Nearest

open Idealize.ShloMosaic Cert.KernelIdeal Cert.KernelIdeal.Gen

/-- One less the size of the inner product of two vectors. -/
def term (u v : Fin 3 → EReal) : EReal := 1 - FloatOps.absf (F := Ideal) (φ := .f32) (u 0 * v 0 + u 1 * v 1 + u 2 * v 2)

/-- A grid point's step adds the terms of its 512 rows. -/
theorem stepAcc_at (u h : Half Ideal) (acc : EReal) :
    stepAcc u h acc = acc + ∑ n : Fin 512, term (normalS (covP u (ix2 0 n))) (normalS (covG h (ix2 0 n))) := by
  have e : ∀ n : Fin 512, term (normalS (covP u (ix2 0 n))) (normalS (covG h (ix2 0 n)))
      = 1 - FloatOps.absf (F := Ideal) (φ := .f32) (G149 u h (ix2 0 n) + G150 u h (ix2 0 n) + P73 u (ix2 0 n) * G148 h (ix2 0 n)) := fun n => by
    rw [G148_at, G149_at, G150_at, P71_at, P72_at, P73_at]
    rfl
  simp only [e]
  unfold stepAcc
  generalize P73 u = a
  generalize G148 h = b
  generalize G149 u h = c
  generalize G150 u h = d
  pointwise [k0_pay1]
  simp

/-- `i n` are the ten nearest points of point `n`, in order, farther ones strictly so, no three of them in one residue class. -/
structure Told (P : Cloud) (i : Fin 2048 → Fin 10 → Fin 2048) : Prop where
  mono : ∀ n, StrictMono fun r => rank P n (i n r)
  out : ∀ n m, (∀ r, m ≠ i n r) → rank P n (i n 9) < rank P n m
  crowd : ∀ n r s t, r ≠ s → s ≠ t → r ≠ t → (i n r).val % 128 = (i n s).val % 128 → (i n s).val % 128 ≠ (i n t).val % 128

variable (m : (ℓ : Loc nD τ sig) → Buf (Elt Ideal) ℓ)

/-- The row of a cloud that lane `n` of row block `r` stands for. -/
def rowOf (r : Fin 4) (n : Fin 512) : Fin 2048 := ⟨r.val * 512 + n.val, by omega⟩

/-- The summed features of a half give the covariance of the ten nearest points. -/
theorem half_cov_at (c : Dev nD) (b : Fin 8) (r : Fin 4) (P : Cloud) (hP : ∀ k n, coord m c b k n = ((P n k : ℝ) : EReal))
    (i : Fin 2048 → Fin 10 → Fin 2048) (hi : Told P i) (n : Fin 512) :
    covOf (fun k => picked (halfAt (F := Ideal) m c b r) (ix2 k n)) = symR P (i (rowOf r n)) := by
  refine cov_at (P := P) (row := rowOf r) (fun n l => ?_) (fun l n => ?_) n (i (rowOf r n)) (hi.mono _) (hi.out _) (hi.crowd _)
  · refine (v2_at m c b (rowOf r n) l).trans ?_
    unfold padded
    simp only [hP]
  · refine (v3_at m c b l n).trans ?_
    unfold padded
    simp only [hP]

/-- The first half's covariance is that of the ten nearest points. -/
theorem covP_told (c : Dev nD) (b : Fin 8) (r : Fin 4) (P : Cloud) (hP : ∀ k n, coord m c b k n = ((P n k : ℝ) : EReal))
    (i : Fin 2048 → Fin 10 → Fin 2048) (hi : Told P i) (n : Fin 512) :
    covP (halfAt (F := Ideal) m c b r) (ix2 0 n) = symR P (i (rowOf r n)) := by
  refine (covP_at _ n).trans (Eq.trans ?_ (half_cov_at m c b r P hP i hi n))
  rw [sumP_eq]

/-- The second half's covariance is that of the ten nearest points. -/
theorem covG_told (c : Dev nD) (b : Fin 8) (r : Fin 4) (P : Cloud) (hP : ∀ k n, coord m c b k n = ((P n k : ℝ) : EReal))
    (i : Fin 2048 → Fin 10 → Fin 2048) (hi : Told P i) (n : Fin 512) :
    covG (halfAt (F := Ideal) m c b r) (ix2 0 n) = symR P (i (rowOf r n)) := by
  refine (covG_at _ n).trans (Eq.trans ?_ (half_cov_at m c b r P hP i hi n))
  rw [G110_eq]

/-- The normal of a point. -/
def normalAt (P : Cloud) (i : Fin 2048 → Fin 10 → Fin 2048) (n : Fin 2048) : Fin 3 → EReal := normalS (symR P (i n))

variable (c : Dev nD) (P : Fin 8 → Cloud) (hP : ∀ b k n, coord m c b k n = ((P b n k : ℝ) : EReal))
  (i : Fin 8 → Fin 2048 → Fin 10 → Fin 2048) (hi : ∀ b, Told (P b) (i b))

include hP hi

/-- One row block's step adds the terms of its rows. -/
theorem blockAcc_terms (b r : Fin 4) (acc : EReal) :
    blockAcc (F := Ideal) m c b r acc = acc + ∑ n : Fin 512,
      term (normalAt (P ⟨b.val, by omega⟩) (i ⟨b.val, by omega⟩) (rowOf r n))
        (normalAt (P ⟨b.val + 4, by omega⟩) (i ⟨b.val + 4, by omega⟩) (rowOf r n)) := by
  unfold blockAcc
  rw [stepAcc_at]
  simp only [covP_told m c _ r _ (hP _) _ (hi _), covG_told m c _ r _ (hP _) _ (hi _), normalAt]

/-- A pair's sum is the sum of the terms of all its points. -/
theorem sumTo_terms (b : Fin 4) :
    (sumTo (F := Ideal) m c b 3 (by omega) : EReal) = ∑ n : Fin 2048,
      term (normalAt (P ⟨b.val, by omega⟩) (i ⟨b.val, by omega⟩) n)
        (normalAt (P ⟨b.val + 4, by omega⟩) (i ⟨b.val + 4, by omega⟩) n) := by
  simp only [sumTo, blockAcc_terms m c P hP i hi]
  generalize hf : (fun n => term (normalAt (P ⟨b.val, by omega⟩) (i ⟨b.val, by omega⟩) n)
        (normalAt (P ⟨b.val + 4, by omega⟩) (i ⟨b.val + 4, by omega⟩) n)) = f
  have hf' : ∀ n, term (normalAt (P ⟨b.val, by omega⟩) (i ⟨b.val, by omega⟩) n)
        (normalAt (P ⟨b.val + 4, by omega⟩) (i ⟨b.val + 4, by omega⟩) n) = f n := fun n => congrFun hf n
  simp only [hf']
  have z : (Scalar.ofBits (F := Ideal) .f32 0x00000000#32 : EReal) = 0 := Ideal.ofBits_zero_f32
  rw [z, zero_add]
  have e : (∑ n : Fin 2048, f n) = ∑ x : Fin 4 × Fin 512, f (rowOf x.1 x.2) := by
    refine (Fintype.sum_equiv (finProdFinEquiv (m := 4) (n := 512)) (fun x => f (rowOf x.1 x.2)) f fun x => ?_).symm
    congr 1
    refine Fin.ext ?_
    show x.1.val * 512 + x.2.val = x.2.val + 512 * x.1.val
    ring
  rw [e, Fintype.sum_prod_type, Fin.sum_univ_four]
  rfl

end Cert.Nearest
-- ==== Proof.RefTop.lean ====
/- The reference's ten nearest of a point: the distances, their order, and the coordinates gathered. -/
module

public import proofs.«01_k».proof.Proof.RefEig
public import proofs.«01_k».proof.Proof.KSum
public import Idealize.ShloMosaic.Lib.SortFacts

@[expose] public section

set_option maxRecDepth 16384

noncomputable section

namespace Cert.Nearest

open Idealize.ShloMosaic Cert.ReferenceIdeal Cert.ReferenceIdeal.Gen Cert.ReferenceIdeal.Value

/-- The points of a cloud array, one row each. -/
def pts (X : FVec Ideal S4x3x2048 .f32) : FVec Ideal S4x2048x3 .f32 :=
  transpose S4x2048x3 [0, 2, 1] X transposes_S4x3x2048_S4x2048x3_0_2_1

/-- The squared norms of the points. -/
def sq (X : FVec Ideal S4x3x2048 .f32) : FVec Ideal S4x2048 .f32 :=
  Host.reduceAdd (mulf (pts X) (pts X)) (constant S_ .f32 0x00000000#32) reducesTo_S4x2048x3_S4x2048_d2 h_S_

/-- The negated squared distances between the points of one cloud. -/
def far (X : FVec Ideal S4x3x2048 .f32) : FVec Ideal S4x2048x2048 .f32 :=
  Host.negf (addf (subf (broadcastInDim S4x2048x2048 ![0, 1, 2] bcast_S4x2048x1_S4x2048x2048_0_1_2
      (broadcastInDim S4x2048x1 ![0, 1] bcast_S4x2048_S4x2048x1_0_1 (sq X)))
    (mulf (broadcastInDim S4x2048x2048 ![] bcast_S_S4x2048x2048 (constant S_ .f32 0x40000000#32))
      (Host.dotGeneral dot_S4x2048x3_S4x2048x3_S4x2048x2048_2_2_1_1_0_0 none (pts X) (pts X))))
    (broadcastInDim S4x2048x2048 ![0, 1, 2] bcast_S4x1x2048_S4x2048x2048_0_1_2
      (broadcastInDim S4x1x2048 ![0, 2] bcast_S4x2048_S4x1x2048_0_2 (sq X))))

/-- The squared distance between two real points. -/
def gap (P : Cloud) (n m : Fin 2048) : ℝ := dot P n n - 2 * dot P n m + dot P m m

/-- The negated distance at a pair of real points. -/
theorem far_at (X : FVec Ideal S4x3x2048 .f32) (P : Fin 4 → Cloud) (hX : ∀ b k n, X (ix3 b k n) = ((P b n k : ℝ) : EReal))
    (b : Fin 4) (n m : Fin 2048) : far X (ix3 b n m) = ((-gap (P b) n m : ℝ) : EReal) := by
  have hp : ∀ n k, pts X (ix3 b n k) = ((P b n k : ℝ) : EReal) := fun n k => by
    rw [← hX b k n]; unfold pts; pointwise
  have hs : ∀ n, sq X (ix2 b n) = ((dot (P b) n n : ℝ) : EReal) := fun n => by
    unfold sq
    pointwise
    rw [Fin.sum_univ_three]
    simp only [hp]
    unfold dot
    push_cast
    rfl
  unfold far
  generalize hu : sq X = u at hs ⊢
  generalize hv : pts X = v at hp ⊢
  pointwise
  rw [show (1073741824#32 : BitVec 32) = 0x40000000#32 from rfl, ofBits_two, Fin.sum_univ_three]
  simp only [hp, hs]
  unfold gap dot
  push_cast
  rfl

/-- One row's places in the order of the reference's `top_k`: the permutation `π` puts the row's entries in descending
    order, and the `r`-th greatest of the row is its entry at `π r`. -/
theorem places (x : FVec Ideal S4x2048x2048 .f32) (b : Fin 4) (n : Fin 2048) :
    ∃ π : Fin 2048 → Fin 2048, Function.Injective π ∧ Function.Surjective π
      ∧ (∀ i j, i < j → (x (ix3 b n (π j)) : EReal) ≤ x (ix3 b n (π i)))
      ∧ ∀ (K : Nat) (hK : K ≤ 2048) (h : S4x2048x2048.Slices (fun _ => 0) ⟨3, ![4, 2048, K]⟩) (r : Fin K),
          (Host.topK ⟨3, ![4, 2048, K]⟩ 2 (FloatOps.cmpfTotal (F := Ideal) (φ := .f32) .gt) x h).1 (ix3 b n r)
              = x (ix3 b n (π (r.castLE hK)))
          ∧ (Host.topK ⟨3, ![4, 2048, K]⟩ 2 (FloatOps.cmpfTotal (F := Ideal) (φ := .f32) .gt) x h).2 (ix3 b n r)
              = BitVec.ofNat 32 (π (r.castLE hK)).val := by
  have ha : ∀ (j : Fin 2048) (k : Fin 2048), (ix3 b n j : S4x2048x2048.Idx).along 2 k = ix3 b n k := fun j k => by
    funext a; fin_cases a <;> rfl
  let B : Fin 2048 → Fin 2048 → Bool := fun k k' => FloatOps.cmpfTotal (F := Ideal) (φ := .f32) .gt (x (ix3 b n k)) (x (ix3 b n k')) == 1#1
  have hB : ∀ k k', B k k' = decide ((x (ix3 b n k') : EReal) < x (ix3 b n k)) := fun k k' => by
    show (Ideal.cmpTotal .gt (x (ix3 b n k)) (x (ix3 b n k')) == 1#1) = _
    unfold Ideal.cmpTotal
    by_cases h : (x (ix3 b n k') : EReal) < x (ix3 b n k) <;> simp [Ideal.cmp, CmpDirection.ordered, h]
  refine ⟨sortedFrom B, sortedFrom_injective B, sortedFrom_surjective B, fun i j hij => ?_, fun K hK h r => ?_⟩
  · have := sortedFrom_noInversion B B (fun a b => by simp only [hB, decide_eq_true_eq, decide_eq_false_iff_not, not_lt]; exact le_of_lt)
      (fun a b h => h) (fun a b c => by simp only [hB, decide_eq_false_iff_not, not_lt]; exact fun h1 h2 => le_trans h1 h2) i j hij
    simpa only [hB, decide_eq_false_iff_not, not_lt] using this
  · have hs : ∀ {α : Type} (z : S4x2048x2048.Idx → α),
        extractStridedSlice ⟨3, ![4, 2048, K]⟩ (fun _ => 0) z h (ix3 b n r) = z (ix3 b n (r.castLE hK)) := fun z => by
      unfold extractStridedSlice
      congr 1
      funext a
      fin_cases a <;> exact Fin.ext (Nat.zero_add _)
    have hd : (2 : Nat) < S4x2048x2048.rank := by decide
    have hπ : (fun k k' => FloatOps.cmpfTotal (F := Ideal) (φ := .f32) .gt (x ((ix3 b n (r.castLE hK) : S4x2048x2048.Idx).along 2 k))
        (x ((ix3 b n (r.castLE hK) : S4x2048x2048.Idx).along 2 k')) == 1#1) = B := by
      funext k k'
      exact congrArg₂ (fun u v => FloatOps.cmpfTotal (F := Ideal) (φ := .f32) .gt (x u) (x v) == 1#1) (ha _ k) (ha _ k')
    unfold Host.topK
    dsimp only
    rw [hs, hs]
    unfold Host.sort2
    simp only [dif_pos hd]
    have hq : sortedFrom (fun k k' => FloatOps.cmpfTotal (F := Ideal) (φ := .f32) .gt (x ((ix3 b n (r.castLE hK) : S4x2048x2048.Idx).along 2 k))
        (x ((ix3 b n (r.castLE hK) : S4x2048x2048.Idx).along 2 k')) == 1#1) (r.castLE hK) = sortedFrom B (r.castLE hK) :=
      congrFun (congrArg sortedFrom hπ) _
    have he := (congrArg ((ix3 b n (r.castLE hK) : S4x2048x2048.Idx).along 2) hq).trans (ha _ _)
    exact ⟨congrArg x he, (congrArg (iotaInDim S4x2048x2048 32 ⟨2, hd⟩) he).trans rfl⟩

end Cert.Nearest
-- ==== Proof.RefCov.lean ====
/- The reference's covariance matrices of the ten nearest, read at a point of a real cloud. -/
module

public import proofs.«01_k».proof.Proof.RefTop

@[expose] public section

set_option maxRecDepth 16384

noncomputable section

namespace Cert.Nearest

open Idealize.ShloMosaic Cert.ReferenceIdeal Cert.ReferenceIdeal.Gen Cert.ReferenceIdeal.Value

/-- The indices of the ten nearest of every point. -/
def near (X : FVec Ideal S4x3x2048 .f32) : IVec S4x2048x10 32 :=
  (Host.topK S4x2048x10 2 (FloatOps.cmpfTotal .gt) (far X) sliceFits_S4x2048x2048_S4x2048x10).2

/-- The points at an array of indices. -/
def hood (X : FVec Ideal S4x3x2048 .f32) (i : IVec S4x2048x10 32) : FVec Ideal S4x2048x10x3 .f32 :=
  Host.gather gather_S4x2048x3_S4x2048x10x1_S4x2048x10x3_3_1_0_0_1_3_113 (pts X)
    (broadcastInDim S4x2048x10x1 ![0, 1, 2] bcast_S4x2048x10_S4x2048x10x1_0_1_2
      (select (cmpi .slt i (broadcastInDim S4x2048x10 ![] bcast_S_S4x2048x10 (constantI S_ 32 0#32)))
        (addi i (broadcastInDim S4x2048x10 ![] bcast_S_S4x2048x10 (constantI S_ 32 2048#32))) i))

/-- The deviations of ten points from their mean. -/
def dev (h : FVec Ideal S4x2048x10x3 .f32) : FVec Ideal S4x2048x10x3 .f32 :=
  subf h (broadcastInDim S4x2048x10x3 ![0, 1, 2, 3] bcast_S4x2048x1x3_S4x2048x10x3_0_1_2_3
    (Host.divf (broadcastInDim S4x2048x1x3 ![0, 1, 3] bcast_S4x2048x3_S4x2048x1x3_0_1_3
        (Host.reduceAdd h (constant S_ .f32 0x00000000#32) reducesTo_S4x2048x10x3_S4x2048x3_d2 h_S_))
      (broadcastInDim S4x2048x1x3 ![] bcast_S_S4x2048x1x3 (constant S_ .f32 0x41200000#32))))

/-- The mean products of deviations. -/
def spread (d : FVec Ideal S4x2048x10x3 .f32) : FVec Ideal S4x2048x3x3 .f32 :=
  Host.divf (Host.dotGeneral dot_S4x2048x10x3_S4x2048x10x3_S4x2048x3x3_2_2_3_3_01_01 none d d)
    (broadcastInDim S4x2048x3x3 ![] bcast_S_S4x2048x3x3 (constant S_ .f32 0x41200000#32))

/-- The literal ten. -/
theorem ofBits_ten : Ideal.ofBits .f32 0x41200000#32 = ((10 : ℝ) : EReal) := by
  simp [Ideal.ofBits, Ideal.ieee, -EReal.coe_mul]; norm_num

/-- A point's number read back from its word. -/
theorem toInt_point (q : Fin 2048) : (BitVec.ofNat 32 q.val).toInt = (q.val : Int) := by
  have := q.isLt
  rw [BitVec.toInt_eq_toNat_bmod, BitVec.toNat_ofNat, Nat.mod_eq_of_lt (by omega), Int.bmod_def]
  omega

/-- The gathered points at indices in range. -/
theorem hood_at (X : FVec Ideal S4x3x2048 .f32) (i : IVec S4x2048x10 32) (b : Fin 4) (n : Fin 2048) (r : Fin 10) (k : Fin 3)
    (q : Fin 2048) (hq : i (ix3 b n r) = BitVec.ofNat 32 q.val) : hood X i (ix4 b n r k) = pts X (ix3 b q k) := by
  unfold hood
  have hi : (select (cmpi .slt i (broadcastInDim S4x2048x10 ![] bcast_S_S4x2048x10 (constantI S_ 32 0#32)))
        (addi i (broadcastInDim S4x2048x10 ![] bcast_S_S4x2048x10 (constantI S_ 32 2048#32))) i) (ix3 b n r) = BitVec.ofNat 32 q.val := by
    pointwise
    rw [hq]
    have : (BitVec.ofNat 32 q.val).slt 0#32 = false := by
      rw [BitVec.slt_eq_decide, decide_eq_false_iff_not, toInt_point]
      simp
    simp [IntOp.cmpi, this, Scalar.select]
  generalize select _ _ _ = v at hi ⊢
  unfold Host.gather
  congr 1
  funext a
  refine Fin.ext ?_
  have hz : (BitVec.ofNat 32 q.val).toInt.toNat = q.val := by rw [toInt_point, Int.toNat_natCast]
  have hv : broadcastInDim S4x2048x10x1 ![0, 1, 2] bcast_S4x2048x10_S4x2048x10x1_0_1_2 v (ix4 b n r 0) = BitVec.ofNat 32 q.val := by
    rw [← hi]; pointwise
  generalize broadcastInDim S4x2048x10x1 ![0, 1, 2] bcast_S4x2048x10_S4x2048x10x1_0_1_2 v = w at hv
  fin_cases a
  · show 0 + b.val + 0 = b.val
    omega
  · have hw : gather_S4x2048x3_S4x2048x10x1_S4x2048x10x3_3_1_0_0_1_3_113.siIdx (ix4 b n r k) ⟨0, by decide⟩ = ix4 b n r 0 := by
      funext a; fin_cases a <;> rfl
    show min (w (gather_S4x2048x3_S4x2048x10x1_S4x2048x10x3_3_1_0_0_1_3_113.siIdx (ix4 b n r k) ⟨0, by decide⟩)).toInt.toNat 2047 + 0 + 0 = q.val
    rw [hw, hv, hz]
    have := q.isLt
    omega
  · show 0 + 0 + k.val = k.val
    omega

/-- The covariances of ten real points. -/
theorem spread_at (h : FVec Ideal S4x2048x10x3 .f32) (P : Cloud) (i : Fin 10 → Fin 2048) (b : Fin 4) (n : Fin 2048)
    (hh : ∀ r k, h (ix4 b n r k) = ((P (i r) k : ℝ) : EReal)) (x y : Fin 3) :
    spread (dev h) (ix4 b n x y) = ((covR P i x y : ℝ) : EReal) := by
  have hd : ∀ r k, dev h (ix4 b n r k) = ((P (i r) k - meanR P i k : ℝ) : EReal) := fun r k => by
    unfold dev
    pointwise
    rw [show (1092616192#32 : BitVec 32) = 0x41200000#32 from rfl, ofBits_ten, Ideal.div_coe (by norm_num)]
    simp only [hh]
    rw [coe_sum, ← EReal.coe_mul, ← EReal.coe_sub]
    unfold meanR
    congr 2
    ring
  unfold spread
  generalize dev h = d at hd ⊢
  pointwise
  rw [show (1092616192#32 : BitVec 32) = 0x41200000#32 from rfl, ofBits_ten, Ideal.div_coe (by norm_num)]
  simp only [hd, ← EReal.coe_mul]
  rw [coe_sum, ← EReal.coe_mul]
  unfold covR
  congr 1
  ring

end Cert.Nearest
-- ==== Proof.RefSum.lean ====
/- The reference's result over the extended reals: the terms of all points, summed, over the number of points. -/
module

public import proofs.«01_k».proof.Proof.RefCov

@[expose] public section

set_option maxRecDepth 16384

noncomputable section

namespace Cert.Nearest

open Idealize.ShloMosaic Cert.ReferenceIdeal Cert.ReferenceIdeal.Gen Cert.ReferenceIdeal.Value

/-- The guard under the square root is a positive real number. -/
theorem ofBits_tiny : ∃ t : ℝ, 0 < t ∧ Ideal.ofBits .f32 0x006CE3EE#32 = (t : EReal) := by
  refine ⟨7136238 / 2 ^ 149, by positivity, ?_⟩
  simp [Ideal.ofBits, Ideal.ieee, -EReal.coe_mul]; norm_num

/-- The size of a real symmetric matrix is a real number other than zero. -/
theorem size_real (P : Cloud) (i : Fin 10 → Fin 2048) : ∃ p : ℝ, p ≠ 0 ∧ pS (symR P i) = ((p : ℝ) : EReal) := by
  obtain ⟨t, ht, et⟩ := ofBits_tiny
  have hq : qS (symR P i) = (((covR P i 0 0 + covR P i 1 1 + covR P i 2 2) * (1 / 3) : ℝ) : EReal) := by
    rw [EReal.coe_mul, EReal.coe_add, EReal.coe_add]; rfl
  generalize hr : (covR P i 0 0 + covR P i 1 1 + covR P i 2 2) * (1 / 3) = q at hq
  let s : ℝ := ((covR P i 0 0 - q) * (covR P i 0 0 - q) + (covR P i 1 1 - q) * (covR P i 1 1 - q) + (covR P i 2 2 - q) * (covR P i 2 2 - q)
    + 2 * (covR P i 0 1 * covR P i 0 1 + covR P i 0 2 * covR P i 0 2 + covR P i 1 2 * covR P i 1 2)) * (1 / 6) + t
  have hs : 0 < s := by
    have h1 := mul_self_nonneg (covR P i 0 0 - q)
    have h2 := mul_self_nonneg (covR P i 1 1 - q)
    have h3 := mul_self_nonneg (covR P i 2 2 - q)
    have h4 := mul_self_nonneg (covR P i 0 1)
    have h5 := mul_self_nonneg (covR P i 0 2)
    have h6 := mul_self_nonneg (covR P i 1 2)
    show 0 < _ * (1 / 6) + t
    linarith
  refine ⟨Real.sqrt s, (Real.sqrt_pos.2 hs).ne', ?_⟩
  have e2 : (c2 : Ideal .f32) = ((2 : ℝ) : EReal) := ofBits_two
  have et' : (ctiny : Ideal .f32) = ((t : ℝ) : EReal) := et
  have : pS (symR P i) = Ideal.sqrt ((s : ℝ) : EReal) := by
    unfold pS
    rw [hq, e2, et', sixth_eq]
    show Ideal.sqrt _ = Ideal.sqrt _
    congr 1
  rw [this, Ideal.sqrt_coe, if_neg hs.not_gt]

variable (V0 : Valuation τ sig (Elt Ideal))

/-- The covariances of the one cloud and the other, in one array. -/
theorem C_at (g : Fin 2) (b : Fin 4) (n : Fin 2048) (x y : Fin 3) : C V0 (ix3 g b n) x y =
    if g = 0 then spread (dev (hood (V0 (Proc.devRef .tc main_arg0)) (near (V0 (Proc.devRef .tc main_arg0))))) (ix4 b n x y)
    else spread (dev (hood (V0 (Proc.devRef .tc main_arg1)) (near (V0 (Proc.devRef .tc main_arg1))))) (ix4 b n x y) := by
  have e0 : Host.divf (Host.dotGeneral dot_S4x2048x10x3_S4x2048x10x3_S4x2048x3x3_2_2_3_3_01_01 none (res_main_v26 V0) (res_main_v26 V0))
      (broadcastInDim S4x2048x3x3 ![] bcast_S_S4x2048x3x3 (constant S_ .f32 0x41200000#32))
      = spread (dev (hood (V0 (Proc.devRef .tc main_arg0)) (near (V0 (Proc.devRef .tc main_arg0))))) := rfl
  have e1 : Host.divf (Host.dotGeneral dot_S4x2048x10x3_S4x2048x10x3_S4x2048x3x3_2_2_3_3_01_01 none (res_main_v56 V0) (res_main_v56 V0))
      (broadcastInDim S4x2048x3x3 ![] bcast_S_S4x2048x3x3 (constant S_ .f32 0x41200000#32))
      = spread (dev (hood (V0 (Proc.devRef .tc main_arg1)) (near (V0 (Proc.devRef .tc main_arg1))))) := rfl
  unfold C res_main_v62
  rw [e0, e1]
  generalize spread _ = u
  generalize spread _ = v
  fin_cases g
  · pointwise
  · pointwise

/-- What the array of covariances holds when both clouds are real: the covariance of each point's ten nearest. -/
structure BothReal (P Q : Fin 4 → Cloud) (i j : Fin 4 → Fin 2048 → Fin 10 → Fin 2048) : Prop where
  pts0 : ∀ b k n, (V0 (Proc.devRef .tc main_arg0) : FVec Ideal S4x3x2048 .f32) (ix3 b k n) = ((P b n k : ℝ) : EReal)
  pts1 : ∀ b k n, (V0 (Proc.devRef .tc main_arg1) : FVec Ideal S4x3x2048 .f32) (ix3 b k n) = ((Q b n k : ℝ) : EReal)
  near0 : ∀ b n r, near (V0 (Proc.devRef .tc main_arg0)) (ix3 b n r) = BitVec.ofNat 32 (i b n r).val
  near1 : ∀ b n r, near (V0 (Proc.devRef .tc main_arg1)) (ix3 b n r) = BitVec.ofNat 32 (j b n r).val

/-- One cloud's covariances of the ten nearest of a point. -/
theorem spread_near (X : FVec Ideal S4x3x2048 .f32) (P : Fin 4 → Cloud) (i : Fin 4 → Fin 2048 → Fin 10 → Fin 2048)
    (hX : ∀ b k n, X (ix3 b k n) = ((P b n k : ℝ) : EReal)) (hi : ∀ b n r, near X (ix3 b n r) = BitVec.ofNat 32 (i b n r).val)
    (b : Fin 4) (n : Fin 2048) (x y : Fin 3) :
    spread (dev (hood X (near X))) (ix4 b n x y) = ((covR (P b) (i b n) x y : ℝ) : EReal) :=
  spread_at _ (P b) (i b n) b n (fun r k => by
    rw [hood_at X (near X) b n r k _ (hi b n r), ← hX b k (i b n r)]; unfold pts; pointwise) x y

/-- The reference's normals are those of the real covariances. -/
theorem normals_of (g : Fin 2) (b : Fin 4) (n : Fin 2048) (P : Cloud) (i : Fin 10 → Fin 2048)
    (hC : ∀ x y, C V0 (ix3 g b n) x y = ((covR P i x y : ℝ) : EReal)) (k : Fin 3) :
    (res_main_v480 (F := Ideal) V0 (ix4 g b n k) : EReal) = normalS (symR P i) k := by
  have hM : M V0 (ix3 g b n) = symR P i := by unfold M symR; simp only [hC]
  obtain ⟨p, hp0, hp⟩ := size_real P i
  rw [← hM] at hp ⊢
  refine normal_at V0 g b n (fun x y => ?_) (v122_at V0 (ix3 g b n) p hp0 hp) k
  rw [hC, hC]
  unfold covR
  simp only [mul_comm]

/-- The literal 8192, the number of points of the four clouds. -/
theorem ofBits_points : Ideal.ofBits .f32 0x46000000#32 = ((8192 : ℝ) : EReal) := by
  simp [Ideal.ofBits, Ideal.ieee, -EReal.coe_mul]; norm_num

/-- The reference's result at real clouds. -/
theorem reference_value (P Q : Fin 4 → Cloud) (i j : Fin 4 → Fin 2048 → Fin 10 → Fin 2048) (h : BothReal V0 P Q i j) (o : S_.Idx) :
    Host.divf (F := Ideal) (Host.reduceAdd (subf (broadcastInDim S4x2048 ![] bcast_S_S4x2048 (constant S_ .f32 0x3F800000#32)) (Host.absf
      (Host.reduceAdd (mulf
        (shapeCast _ (extractStridedSlice S1x4x2048x3 ![0, 0, 0, 0] (res_main_v480 V0) slices_S2x4x2048x3_S1x4x2048x3_0_0_0_0) shapeCasts_S1x4x2048x3_S4x2048x3)
        (shapeCast _ (extractStridedSlice S1x4x2048x3 ![1, 0, 0, 0] (res_main_v480 V0) slices_S2x4x2048x3_S1x4x2048x3_1_0_0_0) shapeCasts_S1x4x2048x3_S4x2048x3))
        (constant S_ .f32 0x00000000#32) reducesTo_S4x2048x3_S4x2048_d2 h_S_))) (constant S_ .f32 0x00000000#32) reducesTo_S4x2048_S_d0_1 h_S_)
      (constant S_ .f32 0x46000000#32) o
      = (∑ b : Fin 4, ∑ n : Fin 2048, term (normalAt (P b) (i b) n) (normalAt (Q b) (j b) n)) * ((1 / 8192 : ℝ) : EReal) := by
  have h0 : ∀ b n k, (res_main_v480 (F := Ideal) V0 (ix4 0 b n k) : EReal) = normalAt (P b) (i b) n k := fun b n k =>
    normals_of V0 0 b n (P b) (i b n) (fun x y => by rw [C_at, if_pos rfl, spread_near _ P i h.pts0 h.near0]) k
  have h1 : ∀ b n k, (res_main_v480 (F := Ideal) V0 (ix4 1 b n k) : EReal) = normalAt (Q b) (j b) n k := fun b n k =>
    normals_of V0 1 b n (Q b) (j b n) (fun x y => by rw [C_at, if_neg (by decide), spread_near _ Q j h.pts1 h.near1]) k
  generalize hu : res_main_v480 V0 = u at h0 h1 ⊢
  have hv : ∀ b n, Host.reduceAdd (F := Ideal) (mulf
        (shapeCast _ (extractStridedSlice S1x4x2048x3 ![0, 0, 0, 0] u slices_S2x4x2048x3_S1x4x2048x3_0_0_0_0) shapeCasts_S1x4x2048x3_S4x2048x3)
        (shapeCast _ (extractStridedSlice S1x4x2048x3 ![1, 0, 0, 0] u slices_S2x4x2048x3_S1x4x2048x3_1_0_0_0) shapeCasts_S1x4x2048x3_S4x2048x3))
        (constant S_ .f32 0x00000000#32) reducesTo_S4x2048x3_S4x2048_d2 h_S_ (ix2 b n)
      = ∑ k : Fin 3, (normalAt (P b) (i b) n k * normalAt (Q b) (j b) n k : EReal) := fun b n => by
    pointwise
    simp only [h0, h1]
  generalize Host.reduceAdd (F := Ideal) (mulf (shapeCast _ _ _) _) _ _ _ = w at hv ⊢
  pointwise
  rw [show (1174405120#32 : BitVec 32) = 0x46000000#32 from rfl, ofBits_points, Ideal.div_coe (by norm_num)]
  refine congrArg (· * _) (Finset.sum_congr rfl fun b _ => Finset.sum_congr rfl fun n _ => ?_)
  unfold term
  rw [hv, Fin.sum_univ_three]

end Cert.Nearest
-- ==== Proof.RefPre.lean ====
/- What the precondition says of one cloud: its eleven nearest are at strictly growing distances, so that its coordinates
   are real, and no three of the ten nearest share a place modulo 128. -/
module

public import proofs.«01_k».proof.Proof.RefCov
public import proofs.«01_k».proof.Proof.Gen.Pre_well_posed
public import Idealize.ShloMosaic.Lib.ReduceAll
public import Idealize.ShloMosaic.Lib.Routing.Words

@[expose] public section

set_option maxRecDepth 16384

noncomputable section

namespace Cert.Nearest

open Idealize.ShloMosaic Cert.Pre_well_posed Cert.Pre_well_posed.Gen

/-- The eleven greatest entries of every row with their places. -/
def eleven (x : FVec Ideal S4x2048x2048 .f32) : FVec Ideal S4x2048x11 .f32 × IVec S4x2048x11 32 :=
  Host.topK S4x2048x11 2 (FloatOps.cmpfTotal .gt) x sliceFits_S4x2048x2048_S4x2048x11

/-- The eleven greatest of every row strictly fall. -/
def strictP (v : FVec Ideal S4x2048x11 .f32) : IVec S_ 1 :=
  Host.reduce IntOp.andi (cmpf .olt (extractStridedSlice S4x2048x10 ![0, 0, 1] v slices_S4x2048x11_S4x2048x10_0_0_1)
      (extractStridedSlice S4x2048x10 ![0, 0, 0] v slices_S4x2048x11_S4x2048x10_0_0_0))
    (constantI S_ 1 1#1) reducesTo_S4x2048x10_S_d0_1_2 h_S_

/-- The places of the ten nearest modulo 128. -/
def laneP (i : IVec S4x2048x11 32) : IVec S4x2048x10 32 :=
  Host.remsi (extractStridedSlice S4x2048x10 ![0, 0, 0] i slices_S4x2048x11_S4x2048x10_0_0_0)
    (broadcastInDim S4x2048x10 ![] bcast_S_S4x2048x10 (constantI S_ 32 128#32))

/-- How many of the ten share each one's place modulo 128. -/
def countP (l : IVec S4x2048x10 32) : FVec Ideal S4x2048x10 .f32 :=
  Host.reduceAdd (fn_where (F := Ideal)
      (cmpi .eq
        (broadcastInDim S4x2048x10x10 ![0, 1, 2, 3] bcast_S4x2048x10x1_S4x2048x10x10_0_1_2_3
          (broadcastInDim S4x2048x10x1 ![0, 1, 2] bcast_S4x2048x10_S4x2048x10x1_0_1_2 l))
        (broadcastInDim S4x2048x10x10 ![0, 1, 2, 3] bcast_S4x2048x1x10_S4x2048x10x10_0_1_2_3
          (broadcastInDim S4x2048x1x10 ![0, 1, 3] bcast_S4x2048x10_S4x2048x1x10_0_1_3 l)))
      (constant S_ .f32 0x3F800000#32) (constant S_ .f32 0x00000000#32))
    (constant S_ .f32 0x00000000#32) reducesTo_S4x2048x10x10_S4x2048x10_d3 h_S_

/-- At most two of the ten share a place modulo 128. -/
def crowdP (l : IVec S4x2048x10 32) : IVec S_ 1 :=
  Host.reduce IntOp.andi (cmpf .ole (countP l) (broadcastInDim S4x2048x10 ![] bcast_S_S4x2048x10 (constant S_ .f32 0x40000000#32)))
    (constantI S_ 1 1#1) reducesTo_S4x2048x10_S_d0_1_2 h_S_

/-- The precondition is its parts, for the one cloud and the other. -/
theorem fn_parts (X Y : FVec Ideal S4x3x2048 .f32) : Cert.Pre_well_posed.fn (F := Ideal) X Y =
    andi (andi (strictP (eleven (far X)).1) (crowdP (laneP (eleven (far X)).2)))
      (andi (strictP (eleven (far Y)).1) (crowdP (laneP (eleven (far Y)).2))) := by
  sl_kernel_rfl

/-- A conjunction of two verdicts holds when both do. -/
theorem both_one (u v : IVec S_ 1) (j : S_.Idx) (h : andi u v j = 1#1) : u j = 1#1 ∧ v j = 1#1 := by
  have : IntOp.andi (u j) (v j) = 1#1 := h
  revert this
  generalize u j = a; generalize v j = b
  revert a b; decide

/-- A verdict of "less than" that holds. -/
theorem cmp_one (x y : EReal) : Ideal.cmp .olt x y = 1#1 ↔ x < y := by
  by_cases h : x < y <;> simp [Ideal.cmp, h]

/-- A verdict of "at most" that holds. -/
theorem cmp_le_one (x y : EReal) : Ideal.cmp .ole x y = 1#1 ↔ x ≤ y := by
  by_cases h : x ≤ y <;> simp [Ideal.cmp, h]

/-- The eleven greatest strictly fall, read at one row. -/
theorem strict_at (v : FVec Ideal S4x2048x11 .f32) (h : strictP v = fun _ => 1#1) (b : Fin 4) (n : Fin 2048) (r : Fin 10) :
    (v (ix3 b n r.succ) : EReal) < v (ix3 b n r.castSucc) := by
  have hi : Ideal.cmp .olt (extractStridedSlice S4x2048x10 ![0, 0, 1] v slices_S4x2048x11_S4x2048x10_0_0_1 (ix3 b n r))
      (extractStridedSlice S4x2048x10 ![0, 0, 0] v slices_S4x2048x11_S4x2048x10_0_0_0 (ix3 b n r)) = 1#1 :=
    Host.reduce_andi_all _ _ _ _ ix0 (congrFun h ix0) (ix3 b n r)
  rw [cmp_one] at hi
  revert hi
  pointwise
  rw [show (⟨1 + r.val, _⟩ : Fin 11) = r.succ from Fin.ext (Nat.add_comm _ _)]
  exact id

/-- A square is zero or more. -/
theorem square_nonneg (x : EReal) : 0 ≤ x * x := by
  rcases le_total 0 x with h | h
  · exact mul_nonneg h h
  · rw [← neg_mul_neg]
    exact mul_nonneg (EReal.neg_nonneg.2 h) (EReal.neg_nonneg.2 h)

/-- The squared norm of a point is zero or more, and infinite when a coordinate is. -/
theorem sq_at (X : FVec Ideal S4x3x2048 .f32) (b : Fin 4) (n : Fin 2048) :
    (0 : EReal) ≤ sq X (ix2 b n) ∧ ((∃ k, (X (ix3 b k n) : EReal) = ⊤ ∨ (X (ix3 b k n) : EReal) = ⊥) → (sq X (ix2 b n) : EReal) = ⊤) := by
  have e : (sq X (ix2 b n) : EReal) = ∑ k : Fin 3, (X (ix3 b k n) * X (ix3 b k n) : EReal) := by
    unfold sq pts; pointwise
  rw [e]
  refine ⟨Finset.sum_nonneg fun k _ => square_nonneg _, fun ⟨k, hk⟩ => top_le_iff.1 ?_⟩
  have hs : (X (ix3 b k n) * X (ix3 b k n) : EReal) = ⊤ := by rcases hk with h | h <;> rw [h] <;> rfl
  exact hs ▸ Finset.single_le_sum (f := fun k : Fin 3 => (X (ix3 b k n) * X (ix3 b k n) : EReal)) (fun k _ => square_nonneg _) (Finset.mem_univ k)

/-- The row of a point with an infinite coordinate has infinite distances alone. -/
theorem far_infinite (X : FVec Ideal S4x3x2048 .f32) (b : Fin 4) (n m : Fin 2048) (h : (sq X (ix2 b n) : EReal) = ⊤) :
    (far X (ix3 b n m) : EReal) = ⊤ ∨ (far X (ix3 b n m) : EReal) = ⊥ := by
  have hm := (sq_at X b m).1
  unfold far
  generalize hu : sq X = u at h hm ⊢
  pointwise
  rw [h]
  generalize Ideal.ofBits FTy.f32 1073741824#32 * _ = y
  generalize u (ix2 b m) = z at hm
  show -((⊤ - y : EReal) + z) = ⊤ ∨ -((⊤ - y : EReal) + z) = ⊥
  by_cases hy : y = ⊤
  · subst hy
    left
    rw [EReal.sub_top, EReal.bot_add, EReal.neg_bot]
  · right
    rw [EReal.top_sub hy, EReal.top_add_of_ne_bot (fun e => by rw [e] at hm; exact absurd hm (by simp)), EReal.neg_top]

/-- Strictly falling entries are not all infinite. -/
theorem not_two (v : FVec Ideal S4x2048x11 .f32) (h : strictP v = fun _ => 1#1) (b : Fin 4) (n : Fin 2048)
    (hv : ∀ r : Fin 11, (v (ix3 b n r) : EReal) = ⊤ ∨ (v (ix3 b n r) : EReal) = ⊥) : False := by
  have h0 := strict_at v h b n 0
  have h1 := strict_at v h b n 1
  rw [show (1 : Fin 10).castSucc = (0 : Fin 10).succ from rfl] at h1
  rcases hv (0 : Fin 10).succ with e | e
  · rw [e] at h0
    exact not_top_lt h0
  · rw [e] at h1
    exact not_lt_bot h1

/-- Points at strictly growing distances have real coordinates: of an infinite coordinate's row at most two entries differ. -/
theorem real_at (X : FVec Ideal S4x3x2048 .f32) (h : strictP (eleven (far X)).1 = fun _ => 1#1) :
    ∃ P : Fin 4 → Cloud, ∀ b k n, X (ix3 b k n) = ((P b n k : ℝ) : EReal) := by
  have hx : ∀ b k n, ¬ ((X (ix3 b k n) : EReal) = ⊤ ∨ (X (ix3 b k n) : EReal) = ⊥) := fun b k n hk => by
    obtain ⟨π, -, -, -, hplace⟩ := places (far X) b n
    have hv : ∀ r : Fin 11, ((eleven (far X)).1 (ix3 b n r) : EReal) = ⊤ ∨ ((eleven (far X)).1 (ix3 b n r) : EReal) = ⊥ := fun r => by
      rw [show (eleven (far X)).1 (ix3 b n r) = far X (ix3 b n (π (r.castLE (by decide)))) from (hplace 11 (by decide) _ r).1]
      exact far_infinite X b n _ ((sq_at X b n).2 ⟨k, hk⟩)
    exact not_two _ h b n hv
  exact ⟨fun b n k => (X (ix3 b k n) : EReal).toReal, fun b k n =>
    (EReal.coe_toReal (fun e => hx b k n (Or.inl e)) (fun e => hx b k n (Or.inr e))).symm⟩

/-- Three of the ten never share a place modulo 128. -/
theorem crowd_at (l : IVec S4x2048x10 32) (h : crowdP l = fun _ => 1#1) (b : Fin 4) (n : Fin 2048) (r s t : Fin 10)
    (hrs : r ≠ s) (hst : s ≠ t) (hrt : r ≠ t) (h1 : l (ix3 b n r) = l (ix3 b n s)) : l (ix3 b n s) ≠ l (ix3 b n t) := by
  intro h2
  have hi : Ideal.cmp .ole (countP l (ix3 b n r)) (Ideal.ofBits .f32 0x40000000#32) = 1#1 :=
    Host.reduce_andi_all _ _ _ _ ix0 (congrFun h ix0) (ix3 b n r)
  rw [ofBits_two] at hi
  have hc : countP l (ix3 b n r) = ∑ k : Fin 10, if l (ix3 b n r) = l (ix3 b n k) then (1 : EReal) else 0 := by
    unfold countP fn_where
    pointwise
    simp only [constant, Ideal.ofBits_one_f32, Scalar.select, IntOp.cmpi]
    refine Finset.sum_congr rfl fun k _ => if_congr ?_ rfl rfl
    by_cases e : l (ix3 b n r) = l (ix3 b n k)
    · simp [e]
    · simp [beq_eq_false_iff_ne.2 e, e]
  rw [hc, cmp_le_one] at hi
  have h3 : ∑ k ∈ ({r, s, t} : Finset (Fin 10)), (if l (ix3 b n r) = l (ix3 b n k) then (1 : EReal) else 0) = ((3 : ℝ) : EReal) := by
    rw [Finset.sum_insert (by simp [hrs, hrt]), Finset.sum_insert (by simp [hst]), Finset.sum_singleton, if_pos rfl, if_pos h1,
      if_pos (h1.trans h2), ← EReal.coe_one, ← EReal.coe_add, ← EReal.coe_add]
    norm_num
  have hle := Finset.sum_le_sum_of_subset_of_nonneg (f := fun k => if l (ix3 b n r) = l (ix3 b n k) then (1 : EReal) else 0)
    (Finset.subset_univ ({r, s, t} : Finset (Fin 10))) fun k _ _ => by split <;> simp
  rw [h3] at hle
  have := hle.trans hi
  exact absurd (EReal.coe_le_coe_iff.1 this) (by norm_num)

/-- A place modulo 128, as a word. -/
theorem lane_at (i : IVec S4x2048x11 32) (b : Fin 4) (n : Fin 2048) (r : Fin 10) (q : Fin 2048)
    (hq : i (ix3 b n r.castSucc) = BitVec.ofNat 32 q.val) : laneP i (ix3 b n r) = BitVec.ofNat 32 (q.val % 128) := by
  have := q.isLt
  rw [← Routing.remsi_word .host (show q.val < 2 ^ 31 by omega) (by norm_num : 0 < 128) (by norm_num), ← hq]
  unfold laneP
  pointwise
  rfl

/-- A cloud that meets the precondition: the reference's ten nearest are what the kernel's selection needs. -/
theorem told_of (X : FVec Ideal S4x3x2048 .f32) (P : Fin 4 → Cloud) (hX : ∀ b k n, X (ix3 b k n) = ((P b n k : ℝ) : EReal))
    (hs : strictP (eleven (far X)).1 = fun _ => 1#1) (hc : crowdP (laneP (eleven (far X)).2) = fun _ => 1#1) :
    ∃ i : Fin 4 → Fin 2048 → Fin 10 → Fin 2048, (∀ b, Told (P b) (i b))
      ∧ ∀ b n r, near X (ix3 b n r) = BitVec.ofNat 32 (i b n r).val := by
  choose π hinj hsur hord hplace using fun b n => places (far X) b n
  have hten : ∀ b n (r : Fin 10), near X (ix3 b n r) = BitVec.ofNat 32 (π b n (r.castLE (by decide))).val := fun b n r =>
    (hplace b n 10 (by decide) _ r).2
  have hval : ∀ b n (r : Fin 11), (eleven (far X)).1 (ix3 b n r) = ((-gap (P b) n (π b n (r.castLE (by decide))) : ℝ) : EReal) := fun b n r =>
    (hplace b n 11 (by decide) _ r).1.trans (far_at X P hX b n _)
  have hidx : ∀ b n (r : Fin 11), (eleven (far X)).2 (ix3 b n r) = BitVec.ofNat 32 (π b n (r.castLE (by decide))).val := fun b n r =>
    (hplace b n 11 (by decide) _ r).2
  have hgap : ∀ b n m, gap (P b) n m = dot (P b) n n + 2 * rank (P b) n m := fun b n m => by unfold gap rank; ring
  have hmono : ∀ b n, StrictMono fun r : Fin 11 => rank (P b) n (π b n (r.castLE (by decide))) := fun b n =>
    Fin.strictMono_iff_lt_succ.2 fun r => by
      have h := strict_at _ hs b n r
      rw [hval, hval, EReal.coe_lt_coe_iff, hgap, hgap] at h
      show rank (P b) n (π b n (r.castSucc.castLE _)) < rank (P b) n (π b n (r.succ.castLE _))
      linarith
  refine ⟨fun b n r => π b n (r.castLE (by decide)), fun b => ⟨fun n => (hmono b n).comp (Fin.strictMono_castSucc), fun n m hm => ?_,
    fun n r s t h1 h2 h3 h4 h5 => ?_⟩, hten⟩
  · obtain ⟨j, rfl⟩ := hsur b n m
    have hj : 10 ≤ j.val := by
      by_contra h
      exact hm ⟨j.val, by omega⟩ rfl
    have h1 : rank (P b) n (π b n ⟨9, by decide⟩) < rank (P b) n (π b n ⟨10, by decide⟩) := hmono b n (show (9 : Fin 11) < 10 by decide)
    have h2 : rank (P b) n (π b n ⟨10, by decide⟩) ≤ rank (P b) n (π b n j) := by
      rcases Nat.lt_or_eq_of_le hj with h | h
      · have := hord b n ⟨10, by decide⟩ j h
        rw [far_at X P hX, far_at X P hX, EReal.coe_le_coe_iff, hgap, hgap] at this
        linarith
      · rw [show (⟨10, by decide⟩ : Fin 2048) = j from Fin.ext h]
    exact h1.trans_le h2
  · have hl : ∀ q : Fin 10, laneP (eleven (far X)).2 (ix3 b n q) = BitVec.ofNat 32 ((π b n (q.castLE (by decide))).val % 128) := fun q =>
      lane_at _ b n q _ (hidx b n q.castSucc)
    exact crowd_at _ hc b n r s t h1 h2 h3 (by rw [hl, hl, h4]) (by rw [hl, hl, h5])

end Cert.Nearest
-- ==== Proof.Value.lean ====
/- The kernel's result and the reference's on clouds that meet the precondition. -/
module

public import proofs.«01_k».proof.Proof.RefSum
public import proofs.«01_k».proof.Proof.RefPre
public import proofs.«01_k».proof.Defs

@[expose] public section

set_option maxRecDepth 16384

noncomputable section

namespace Cert.Nearest

open Idealize.ShloMosaic Idealize.SL.Sem

/-- The eight clouds of the launch: four of the first argument, four of the second. -/
def eight {α : Type} (p q : Fin 4 → α) (b : Fin 8) : α := if h : b.val < 4 then p ⟨b.val, h⟩ else q ⟨b.val - 4, by omega⟩

/-- A cloud of the first argument. -/
theorem eight_low {α : Type} (p q : Fin 4 → α) (b : Fin 4) (h : b.val < 8) : eight p q ⟨b.val, h⟩ = p b := dif_pos b.isLt

/-- A cloud of the second argument. -/
theorem eight_high {α : Type} (p q : Fin 4 → α) (b : Fin 4) (h : b.val + 4 < 8) : eight p q ⟨b.val + 4, h⟩ = q b :=
  (dif_neg (by simp)).trans (congrArg q (Fin.ext (Nat.add_sub_cancel _ _)))

/-- The literal `2⁻¹³` is one over the number of points. -/
theorem ofBits_share : Ideal.ofBits .f32 0x39000000#32 = ((1 / 8192 : ℝ) : EReal) := by
  simp [Ideal.ofBits, Ideal.ieee, -EReal.coe_mul]; norm_num

section
open Cert.KernelIdeal Cert.KernelIdeal.Gen
variable (m : (ℓ : Loc nD τ sig) → Buf (Elt Ideal) ℓ) (c : Dev nD)

/-- The kernel's result on real clouds whose ten nearest are told apart. -/
theorem kernel_value (P Q : Fin 4 → Cloud) (i j : Fin 4 → Fin 2048 → Fin 10 → Fin 2048)
    (hP : ∀ b k n, (m ((c.tc : Thread nD τ).loc main_arg0) : FVec Ideal S4x3x2048 .f32) (ix3 b k n) = ((P b n k : ℝ) : EReal))
    (hQ : ∀ b k n, (m ((c.tc : Thread nD τ).loc main_arg1) : FVec Ideal S4x3x2048 .f32) (ix3 b k n) = ((Q b n k : ℝ) : EReal))
    (hi : ∀ b, Told (P b) (i b)) (hj : ∀ b, Told (Q b) (j b)) (o : S_.Idx) :
    (Pipeline.afterTail₀ cfgs (dats (F := Ideal) m) 0 (V0 m) [hostOps1] c main_v8 : S_.Idx → EReal) o
      = (∑ b : Fin 4, ∑ n : Fin 2048, term (normalAt (P b) (i b) n) (normalAt (Q b) (j b) n)) * ((1 / 8192 : ℝ) : EReal) := by
  rw [result_at, ofBits_share]
  refine congrArg (· * _) (Finset.sum_congr rfl fun b _ => ?_)
  rw [sumTo_terms m c (eight P Q) (fun b k n => by
      unfold coord eight
      by_cases h : b.val < 4
      · rw [dif_pos h, dif_pos h]; exact hP _ k n
      · rw [dif_neg h, dif_neg h]; exact hQ _ k n) (eight i j) (fun b => by
      unfold eight
      by_cases h : b.val < 4
      · rw [dif_pos h, dif_pos h]; exact hi _
      · rw [dif_neg h, dif_neg h]; exact hj _) b]
  rw [eight_low, eight_low, eight_high, eight_high]

/-- The kernel's run: the result as spelled, the arguments kept. -/
theorem kernel_kept (ρ : Dev nD → PrngReg) : θ_run (defs (F := Ideal)) (onTc (τ := τ) (main (F := Ideal))) ⟨m, fun _ => 0, ρ⟩ fun r => ∀ c : Dev nD,
    r.2.mem ((c.tc : Thread nD τ).loc main_v8) = Pipeline.afterTail₀ cfgs (dats (F := Ideal) m) 0 (V0 m) [hostOps1] c main_v8
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h c).2 main_v8 (Pipeline.mem_restRefs_of main_v8 (by decide) (by decide)),
    ((h c).2 main_arg0 (Pipeline.mem_restRefs_of main_arg0 (by decide) (by decide))).trans (W_main_arg0 m _ c),
    ((h c).2 main_arg1 (Pipeline.mem_restRefs_of main_arg1 (by decide) (by decide))).trans (W_main_arg1 m _ c)⟩) (run_main m ρ)

end

/-- From launches that agree on the arguments, on clouds that meet the precondition, the kernel and the reference end with
    the same result and keep their arguments. -/
theorem same_result : Cert.algebraic_KernelIdeal_ReferenceIdeal_pre_well_posed := by
  intro m g m' g' hpre hargs
  refine ⟨_, kernel_kept m g, (θ_run Cert.ReferenceIdeal.defs _ _).mono (fun r h c => ⟨(h c).1.trans ?_, (h c).2⟩)
    (Cert.ReferenceIdeal.Value.run (F := Ideal) m' g')⟩
  obtain ⟨h0, h1⟩ := hargs c
  have hp := hpre c
  rw [fn_parts] at hp
  have hb := fun o => both_one _ _ o (congrFun hp o)
  have hx := fun o => both_one _ _ o (hb o).1
  have hy := fun o => both_one _ _ o (hb o).2
  obtain ⟨P, hP⟩ := real_at _ (funext fun o => (hx o).1)
  obtain ⟨Q, hQ⟩ := real_at _ (funext fun o => (hy o).1)
  obtain ⟨i, hi, hin⟩ := told_of _ P hP (funext fun o => (hx o).1) (funext fun o => (hx o).2)
  obtain ⟨j, hj, hjn⟩ := told_of _ Q hQ (funext fun o => (hy o).1) (funext fun o => (hy o).2)
  funext o
  refine (reference_value _ P Q i j ⟨fun b k n => ?_, fun b k n => ?_, fun b n r => ?_, fun b n r => ?_⟩ o).trans
    (kernel_value m c P Q i j hP hQ hi hj o).symm
  · exact (congrFun h0 _).trans (hP b k n)
  · exact (congrFun h1 _).trans (hQ b k n)
  · exact (congrFun (congrArg near h0) _).trans (hin b n r)
  · exact (congrFun (congrArg near h1) _).trans (hjn b n r)

end Cert.Nearest
-- ==== Proof.lean ====
/- The certificate of the point-cloud normals: the frames of the three programs, the named constants of the kernel, and the
   equality of the kernel's result and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_well_posed
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its arguments and leaves every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames of kernel, idealized kernel and reference, the four places where a named constant stands for a literal, and
    the equality of the results. -/
theorem claim : Cert.Claim := ⟨Cert.Kernel.Gen.facts, Cert.KernelIdeal.Gen.facts, Cert.ReferenceIdeal.Gen.facts,
  Cert.Pre_well_posed.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  ⟨IdealRules.named_const.statement Cert.KernelIdeal.κ "third" .f32 0x3EAAAAAB#32 ((1 / 3 : ℝ) : EReal) rfl,
   IdealRules.named_const.statement Cert.KernelIdeal.κ "sixth" .f32 0x3E2AAAAB#32 ((1 / 6 : ℝ) : EReal) rfl⟩,
  Cert.Nearest.same_result⟩

end Cert.Proof

end
